-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "step" .f32 0x38800200#32 ((16383⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384 : Shape := ⟨1, ![16384]⟩
abbrev S128x128 : Shape := ⟨2, ![128, 128]⟩
abbrev S1x1 : Shape := ⟨2, ![1, 1]⟩
abbrev S_ : Shape := ⟨0, ![]⟩
abbrev S8x128 : Shape := ⟨2, ![8, 128]⟩
abbrev S64x128 : Shape := ⟨2, ![64, 128]⟩
abbrev S8x128x1 : Shape := ⟨3, ![8, 128, 1]⟩
abbrev S4x128 : Shape := ⟨2, ![4, 128]⟩
abbrev S16x128 : Shape := ⟨2, ![16, 128]⟩
abbrev S32x128 : Shape := ⟨2, ![32, 128]⟩
abbrev S128x128x1 : Shape := ⟨3, ![128, 128, 1]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 4
  | .vmem => 3
  | .smem => 0
  | _ => 0

abbrev bufTy : (tb : Table) → Fin (tcTables nBuf tb) → BufTy
  | .hbm, ⟨0, _⟩ => ⟨S16384, .f32⟩
  | .hbm, ⟨1, _⟩ => ⟨S128x128, .f32⟩
  | .hbm, ⟨2, _⟩ => ⟨S1x1, .f32⟩
  | .hbm, ⟨3, _⟩ => ⟨S_, .f32⟩
  | .local _ .vmem, ⟨0, _⟩ => ⟨S128x128, .f32⟩
  | .local _ .vmem, ⟨1, _⟩ => ⟨S1x1, .f32⟩
  | .local _ .vmem, ⟨2, _⟩ => ⟨S8x128, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "step" => some ((16383⁻¹ : ℝ) : EReal)
  | _ => none
-- ==== ReferenceIdeal.lean ====
abbrev S16384 : Shape := ⟨1, ![16384]⟩
abbrev S_ : Shape := ⟨0, ![]⟩
abbrev S16383 : Shape := ⟨1, ![16383]⟩
abbrev S1 : Shape := ⟨1, ![1]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16383, .f32⟩
  | .hbm, ⟨9, _⟩ => ⟨S_, .f32⟩
  | .hbm, ⟨10, _⟩ => ⟨S16383, .f32⟩
  | .hbm, ⟨11, _⟩ => ⟨S16383, .f32⟩
  | .hbm, ⟨12, _⟩ => ⟨S1, .f32⟩
  | .hbm, ⟨13, _⟩ => ⟨S_, .f32⟩
  | .hbm, ⟨14, _⟩ => ⟨S16383, .f32⟩
  | .hbm, ⟨15, _⟩ => ⟨S16383, .f32⟩
  | .hbm, ⟨16, _⟩ => ⟨S16383, .f32⟩
  | .hbm, ⟨17, _⟩ => ⟨S16383, .f32⟩
  | .hbm, ⟨18, _⟩ => ⟨S1, .f32⟩
  | .hbm, ⟨19, _⟩ => ⟨S16383, .f32⟩
  | .hbm, ⟨20, _⟩ => ⟨S16383, .f32⟩
  | .hbm, ⟨21, _⟩ => ⟨S16383, .f32⟩
  | .hbm, ⟨22, _⟩ => ⟨S1, .f32⟩
  | .hbm, ⟨23, _⟩ => ⟨S16384, .f32⟩
  | .hbm, ⟨24, _⟩ => ⟨S16384, .f32⟩
  | .hbm, ⟨25, _⟩ => ⟨S16384, .i32⟩
  | .hbm, ⟨26, _⟩ => ⟨S16384, .f32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_call1_v0 : Ref sig .tc := ⟨.hbm, 25, rfl⟩
abbrev main_call1_v1_0 : Ref sig .tc := ⟨.hbm, 26, rfl⟩
abbrev main_v2 : Ref sig .tc := ⟨.hbm, 27, rfl⟩
abbrev main_c : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_cst_3 : Ref sig .tc := ⟨.hbm, 41, rfl⟩
abbrev main_v13 : Ref sig .tc := ⟨.hbm, 42, rfl⟩

abbrev nD : Nat := 1
abbrev τ : Topo := Topo.v7x

variable {F : FTy → Type} [FloatOps F]
-- ==== Proof.Net.lean ====
/- The sorting network of the kernel as a composition of named passes over tiles of (key, value) pairs, and the
   equation that says the kernel's stored value is computed by it. -/
module

public import proofs.«01_k».proof.Proof.Gen.KernelIdeal.Frame

@[expose] public section

set_option maxRecDepth 16384

noncomputable section

namespace Cert.KernelIdeal.Net

open Idealize.ShloMosaic Idealize.ShloMosaic.TcCoe Idealize.ShloMosaic.Tactic
open Idealize.SL Idealize.SL.Sem Cert.KernelIdeal.Gen

variable {F : FTy → Type} [FloatOps F] [Named F]

/-- A tile of `a` rows and `b` lanes. -/
abbrev Tile (a b : ℕ) : Shape := ⟨2, ![a, b]⟩

theorem slices_tile {a b a' b' o p : ℕ} (h : o + a' ≤ a) (h' : p + b' ≤ b) :
    (Tile a b).Slices ![o, p] (Tile a' b') :=
  ⟨rfl, fun i => by fin_cases i <;> simpa using ‹_›⟩

/-- The pairs of a tile: its keys and its values. -/
abbrev St (F : FTy → Type) (s : Shape) : Type := FVec F s .f32 × IVec s 32

section
variable {s : Shape}

/-- Where the pair (`pk`, `pv`) sorts strictly before the pair (`k`, `v`). -/
def less (pk k : FVec F s .f32) (pv v : IVec s 32) : IVec s 1 :=
  ori (cmpf .olt pk k) (andi (cmpf .oeq pk k) (cmpi .slt pv v))

/-- The pairs turned over where `f` is all ones: the key negated, the value complemented. -/
def flip (f : IVec s 32) (p : St F s) : St F s :=
  (select (cmpi .eq f (broadcast s 0#32)) p.1 (subf (broadcast s (Scalar.ofBits .f32 0x00000000#32)) p.1), xori p.2 f)

/-- All ones where `x` has the bit `w`, zero elsewhere. -/
def dir (x : IVec s 32) (w : BitVec 32) : IVec s 32 :=
  subi (broadcast s 0#32) (extui 32 (cmpi .ne (andi x (broadcast s w)) (broadcast s 0#32)) natLt_1_32)

/-- Where `x` lacks the bit `w`. -/
def low (x : IVec s 32) (w : BitVec 32) : IVec s 1 := cmpi .eq (andi x (broadcast s w)) (broadcast s 0#32)

/-- Compare with the partner's pair `q`: the smaller pair where `lo`, the greater elsewhere. -/
def ce (lo : IVec s 1) (q p : St F s) : St F s :=
  (select (xori (xori (less q.1 p.1 q.2 p.2) lo) (constantI s 1 1#1)) q.1 p.1,
   select (xori (xori (less q.1 p.1 q.2 p.2) lo) (constantI s 1 1#1)) q.2 p.2)

/-- The smaller of two tiles' pairs, place by place. -/
def mn (a b : St F s) : St F s :=
  (select (less b.1 a.1 b.2 a.2) b.1 a.1, select (less b.1 a.1 b.2 a.2) b.2 a.2)

/-- The greater of two tiles' pairs, place by place. -/
def mx (a b : St F s) : St F s :=
  (select (less b.1 a.1 b.2 a.2) a.1 b.1, select (less b.1 a.1 b.2 a.2) a.2 b.2)

end

/-- The row numbers of a block of eight rows. -/
def rows8 : IVec (Tile 8 128) 32 := iota .tc S8x128 32 [0] iota_S8x128_d0_w32
/-- The row numbers of a half tile. -/
def rows64 : IVec (Tile 64 128) 32 := iota .tc S64x128 32 [0] iota_S64x128_d0_w32
/-- The row numbers. -/
def rows : IVec (Tile 128 128) 32 := iota .tc S128x128 32 [0] iota_S128x128_d0_w32
/-- The lane numbers. -/
def cols : IVec (Tile 128 128) 32 := iota .tc S128x128 32 [1] iota_S128x128_d1_w32

/-- The rows `o … o + k - 1`. -/
def cut {n : ℕ} (k o : ℕ) (h : o + k ≤ n) (p : St F (Tile n 128)) : St F (Tile k 128) :=
  (extractStridedSlice (Tile k 128) ![o, 0] p.1 (slices_tile h (by omega)),
   extractStridedSlice (Tile k 128) ![o, 0] p.2 (slices_tile h (by omega)))

/-- Tiles of `k` rows laid one below the other. -/
def join (n k : ℕ) (l : List (St F (Tile k 128)))
    (h : Shape.Concatenates (l.map fun _ => Tile k 128) (Tile n 128) 0) : St F (Tile n 128) :=
  (concatenate (Tile n 128) 0 (l.map fun p => ⟨Tile k 128, p.1⟩) (by simpa [Function.comp_def] using h),
   concatenate (Tile n 128) 0 (l.map fun p => ⟨Tile k 128, p.2⟩) (by simpa [Function.comp_def] using h))

/-- The places `i` as the gather takes them: a negative one counts from the end `n`. -/
def wrap {s t : Shape} (n : BitVec 32) (h : s.ShapeCasts t) (h' : t.ShapeCasts s) (i : IVec s 32) : IVec s 32 :=
  shapeCast s (shapeCast t (select (cmpi .slt i (broadcast s 0#32)) (addi i (broadcast s n)) i) h) h'

/-- Each pair's partner in a block of eight rows: the row numbers differ in the bit `w`. -/
def swap8 (w : BitVec 32) (p : St F (Tile 8 128)) : St F (Tile 8 128) :=
  (dynamicGather 0 p.1 (wrap 8#32 shapeCasts_S8x128_S8x128x1 shapeCasts_S8x128x1_S8x128
      (xori rows8 (broadcast S8x128 w))),
   dynamicGather 0 p.2 (wrap 8#32 shapeCasts_S8x128_S8x128x1 shapeCasts_S8x128x1_S8x128
      (xori rows8 (broadcast S8x128 w))))

/-- Each pair's partner in a half tile, block of eight rows by block. -/
def swapRows (w : BitVec 32) (p : St F (Tile 64 128)) : St F (Tile 64 128) :=
  join 64 8 [swap8 w (cut 8 0 (by omega) p), swap8 w (cut 8 8 (by omega) p), swap8 w (cut 8 16 (by omega) p),
      swap8 w (cut 8 24 (by omega) p), swap8 w (cut 8 32 (by omega) p), swap8 w (cut 8 40 (by omega) p),
      swap8 w (cut 8 48 (by omega) p), swap8 w (cut 8 56 (by omega) p)]
    concatenates_S8x128_S8x128_S8x128_S8x128_S8x128_S8x128_S8x128_S8x128_S64x128_d0

/-- Each pair's partner four rows away: blocks of four rows change places two by two. -/
def swapFours (p : St F (Tile 64 128)) : St F (Tile 64 128) :=
  join 64 4 [cut 4 4 (by omega) p, cut 4 0 (by omega) p, cut 4 12 (by omega) p, cut 4 8 (by omega) p,
      cut 4 20 (by omega) p, cut 4 16 (by omega) p, cut 4 28 (by omega) p, cut 4 24 (by omega) p,
      cut 4 36 (by omega) p, cut 4 32 (by omega) p, cut 4 44 (by omega) p, cut 4 40 (by omega) p,
      cut 4 52 (by omega) p, cut 4 48 (by omega) p, cut 4 60 (by omega) p, cut 4 56 (by omega) p]
    concatenates_S4x128_S4x128_S4x128_S4x128_S4x128_S4x128_S4x128_S4x128_S4x128_S4x128_S4x128_S4x128_S4x128_S4x128_S4x128_S4x128_S64x128_d0

/-- Each pair's partner in its row: the lane numbers differ in the bit `w`. -/
def swapLanes (w : BitVec 32) (p : St F (Tile 128 128)) : St F (Tile 128 128) :=
  (dynamicGather 1 p.1 (wrap 128#32 shapeCasts_S128x128_S128x128x1 shapeCasts_S128x128x1_S128x128
      (xori cols (broadcast S128x128 w))),
   dynamicGather 1 p.2 (wrap 128#32 shapeCasts_S128x128_S128x128x1 shapeCasts_S128x128x1_S128x128
      (xori cols (broadcast S128x128 w))))

/-- One compare-exchange pass between rows, the partners being `q`. -/
def rollRows (w : BitVec 32) (q p : St F (Tile 64 128)) : St F (Tile 64 128) := ce (low rows64 w) q p

/-- One compare-exchange pass between lanes. -/
def rollLanes (w : BitVec 32) (p : St F (Tile 128 128)) : St F (Tile 128 128) := ce (low cols w) (swapLanes w p) p

/-- One compare-exchange pass between rows 64 apart. -/
def blk64 (p : St F (Tile 128 128)) : St F (Tile 128 128) :=
  join 128 64 [mn (cut 64 0 (by omega) p) (cut 64 64 (by omega) p), mx (cut 64 0 (by omega) p) (cut 64 64 (by omega) p)]
    concatenates_S64x128_S64x128_S128x128_d0

/-- One compare-exchange pass between rows 32 apart. -/
def blk32 (p : St F (Tile 64 128)) : St F (Tile 64 128) :=
  join 64 32 [mn (cut 32 0 (by omega) p) (cut 32 32 (by omega) p), mx (cut 32 0 (by omega) p) (cut 32 32 (by omega) p)]
    concatenates_S32x128_S32x128_S64x128_d0

/-- One compare-exchange pass between rows 16 apart. -/
def blk16 (p : St F (Tile 64 128)) : St F (Tile 64 128) :=
  join 64 16 [mn (cut 16 0 (by omega) p) (cut 16 16 (by omega) p), mx (cut 16 0 (by omega) p) (cut 16 16 (by omega) p),
      mn (cut 16 32 (by omega) p) (cut 16 48 (by omega) p), mx (cut 16 32 (by omega) p) (cut 16 48 (by omega) p)]
    concatenates_S16x128_S16x128_S16x128_S16x128_S64x128_d0

/-- One compare-exchange pass between rows 8 apart. -/
def blk8 (p : St F (Tile 64 128)) : St F (Tile 64 128) :=
  join 64 8 [mn (cut 8 0 (by omega) p) (cut 8 8 (by omega) p), mx (cut 8 0 (by omega) p) (cut 8 8 (by omega) p),
      mn (cut 8 16 (by omega) p) (cut 8 24 (by omega) p), mx (cut 8 16 (by omega) p) (cut 8 24 (by omega) p),
      mn (cut 8 32 (by omega) p) (cut 8 40 (by omega) p), mx (cut 8 32 (by omega) p) (cut 8 40 (by omega) p),
      mn (cut 8 48 (by omega) p) (cut 8 56 (by omega) p), mx (cut 8 48 (by omega) p) (cut 8 56 (by omega) p)]
    concatenates_S8x128_S8x128_S8x128_S8x128_S8x128_S8x128_S8x128_S8x128_S64x128_d0

/-- The passes between rows of one half, from the distance in the name down to 1. -/
def tail1 (p : St F (Tile 64 128)) : St F (Tile 64 128) := rollRows 1#32 (swapRows 1#32 p) p
def tail2 (p : St F (Tile 64 128)) : St F (Tile 64 128) := tail1 (rollRows 2#32 (swapRows 2#32 p) p)
def tail4 (p : St F (Tile 64 128)) : St F (Tile 64 128) := tail2 (rollRows 4#32 (swapFours p) p)
def tail8 (p : St F (Tile 64 128)) : St F (Tile 64 128) := tail4 (blk8 p)
def tail16 (p : St F (Tile 64 128)) : St F (Tile 64 128) := tail8 (blk16 p)
def tail32 (p : St F (Tile 64 128)) : St F (Tile 64 128) := tail16 (blk32 p)

/-- The five first stages on one half tile. -/
def stages5 (p : St F (Tile 64 128)) : St F (Tile 64 128) :=
  tail16 (flip (xori (dir rows64 16#32) (dir rows64 32#32))
    (tail8 (flip (xori (dir rows64 8#32) (dir rows64 16#32))
      (tail4 (flip (xori (dir rows64 4#32) (dir rows64 8#32))
        (tail2 (flip (xori (dir rows64 2#32) (dir rows64 4#32))
          (tail1 (flip (dir rows64 2#32) p)))))))))

/-- The six first stages: each half sorts its columns' rows, the lower one upside down. -/
def stages6 (p : St F (Tile 128 128)) : St F (Tile 128 128) :=
  join 128 64
    [tail32 (flip (dir rows64 32#32) (stages5 (cut 64 0 (by omega) p))),
     tail32 (flip (xori (dir rows64 32#32) (subi (broadcast S64x128 0#32) (broadcast S64x128 1#32)))
       (stages5 (cut 64 64 (by omega) p)))]
    concatenates_S64x128_S64x128_S128x128_d0

/-- The passes between rows, from 64 apart down to 1. -/
def tail64 (p : St F (Tile 128 128)) : St F (Tile 128 128) :=
  join 128 64 [tail32 (cut 64 0 (by omega) (blk64 p)), tail32 (cut 64 64 (by omega) (blk64 p))]
    concatenates_S64x128_S64x128_S128x128_d0

/-- The passes between lanes from the distance in the name down to 1, then those between rows. -/
def lanes1 (p : St F (Tile 128 128)) : St F (Tile 128 128) := tail64 (rollLanes 1#32 p)
def lanes2 (p : St F (Tile 128 128)) : St F (Tile 128 128) := lanes1 (rollLanes 2#32 p)
def lanes4 (p : St F (Tile 128 128)) : St F (Tile 128 128) := lanes2 (rollLanes 4#32 p)
def lanes8 (p : St F (Tile 128 128)) : St F (Tile 128 128) := lanes4 (rollLanes 8#32 p)
def lanes16 (p : St F (Tile 128 128)) : St F (Tile 128 128) := lanes8 (rollLanes 16#32 p)
def lanes32 (p : St F (Tile 128 128)) : St F (Tile 128 128) := lanes16 (rollLanes 32#32 p)
def lanes64 (p : St F (Tile 128 128)) : St F (Tile 128 128) := lanes32 (rollLanes 64#32 p)

/-- The stages seven to nine. -/
def stages9 (p : St F (Tile 128 128)) : St F (Tile 128 128) :=
  lanes2 (flip (xori (dir cols 2#32) (dir cols 4#32))
    (lanes1 (flip (xori (dir cols 1#32) (dir cols 2#32))
      (tail64 (flip (xori (dir rows 64#32) (dir cols 1#32)) p)))))

/-- The stages ten to fourteen. -/
def stages14 (p : St F (Tile 128 128)) : St F (Tile 128 128) :=
  lanes64 (flip (dir cols 64#32)
    (lanes32 (flip (xori (dir cols 32#32) (dir cols 64#32))
      (lanes16 (flip (xori (dir cols 16#32) (dir cols 32#32))
        (lanes8 (flip (xori (dir cols 8#32) (dir cols 16#32))
          (lanes4 (flip (xori (dir cols 4#32) (dir cols 8#32)) p)))))))))

/-- The whole network. -/
def net (p : St F (Tile 128 128)) : St F (Tile 128 128) := stages14 (stages9 (stages6 p))

/-- The pairs the network starts from: the keys beside their places, row by row. -/
def start (y : FVec F S128x128 .f32) : St F (Tile 128 128) :=
  (y, addi (muli rows (broadcast S128x128 128#32)) cols)

/-- The mean distance between the keys, column by column, and the values' multiples of the step. -/
def loss (y : FVec F S128x128 .f32) (v : IVec S128x128 32) : FVec F S1x1 .f32 :=
  broadcast S1x1 (Scalar.divf (extractAt ![0, 0, 0] (shapeCast S1x1x1 (multiReduction .add [1, 2] S1
    (shapeCast S1x128x128 (absf (subf (transpose S128x128 [1, 0] y transposes_S128x128_p1_0_S128x128)
      (mulf (sitofp .f32 v) (broadcast S128x128 (Named.named κ "step" 0x38800200#32)))))
      shapeCasts_S128x128_S1x128x128) 0x00000000#32 reduces_S1x128x128_S1 (.inl rfl) rfl) shapeCasts_S1_S1x1x1)
    inpos_S1x1x1_p0_0_0) (Scalar.ofBits .f32 0x46800000#32))

/-- What the kernel stores from the block `x`. -/
def out (x : FVec F S128x128 .f32) : FVec F S1x1 .f32 :=
  loss (absf (shapeCast S128x128 x shapeCasts_S128x128_S128x128))
    (net (start (absf (shapeCast S128x128 x shapeCasts_S128x128_S128x128)))).2

end Cert.KernelIdeal.Net
-- ==== Proof.Order.lean ====
/- The order in which the kernel's network sorts its pairs, the turning over of a pair that reverses that order, and the
   network's levels written with all exchanges in one direction and the pairs turned over between them. -/
module

public import Idealize.ShloMosaic.Lib.SortNet.Sorts
public import Mathlib.Data.EReal.Operations
public import Mathlib.Data.Prod.Lex

@[expose] public section

noncomputable section

namespace Cert.KernelIdeal.Net

open Idealize.ShloMosaic.SortNet

/-- A key with its value, in lexicographic order. -/
abbrev Ent : Type := EReal ×ₗ ℤ

/-- The pair turned over: its key negated, its value complemented. -/
def turn (e : Ent) : Ent := toLex (-(ofLex e).1, -1 - (ofLex e).2)

/-- Turned over twice a pair is itself. -/
theorem turn_turn (e : Ent) : turn (turn e) = e := by
  unfold turn
  refine congrArg toLex (Prod.ext ?_ ?_)
  · exact neg_neg _
  · show -1 - (-1 - (ofLex e).2) = (ofLex e).2
    omega

/-- Turning over reverses the order. -/
theorem turn_lt_turn (a b : Ent) : turn a < turn b ↔ b < a := by
  unfold turn
  rw [Prod.Lex.lt_iff, Prod.Lex.lt_iff]
  show (-(ofLex a).1 < -(ofLex b).1 ∨ -(ofLex a).1 = -(ofLex b).1 ∧ -1 - (ofLex a).2 < -1 - (ofLex b).2) ↔ _
  rw [EReal.neg_lt_neg_iff, neg_inj, eq_comm (a := (ofLex a).1)]
  constructor
  · rintro (h | ⟨h, h'⟩)
    · exact Or.inl h
    · exact Or.inr ⟨h, by omega⟩
  · rintro (h | ⟨h, h'⟩)
    · exact Or.inl h
    · exact Or.inr ⟨h, by omega⟩

theorem turn_anti {a b : Ent} (h : a ≤ b) : turn b ≤ turn a := by
  rw [← not_lt, turn_lt_turn]
  exact not_lt.mpr h

theorem min_turn (a b : Ent) : min (turn a) (turn b) = turn (max a b) := by
  rcases le_total a b with h | h
  · rw [max_eq_right h, min_eq_right (turn_anti h)]
  · rw [max_eq_left h, min_eq_left (turn_anti h)]

theorem max_turn (a b : Ent) : max (turn a) (turn b) = turn (min a b) := by
  rcases le_total a b with h | h
  · rw [min_eq_left h, max_eq_left (turn_anti h)]
  · rw [min_eq_right h, max_eq_right (turn_anti h)]

/-- The pairs at the network's positions. -/
abbrev Row : Type := Fin (2 ^ 14) → Ent

/-- The pair at the position of number `n`. -/
def at' (v : Row) (n : ℕ) : Ent := v ⟨n % 2 ^ 14, Nat.mod_lt _ (Nat.two_pow_pos 14)⟩

theorem at'_of_lt (v : Row) {n : ℕ} (h : n < 2 ^ 14) : at' v n = v ⟨n, h⟩ :=
  congrArg v (Fin.ext (Nat.mod_eq_of_lt h))

/-- The pairs turned over at the positions that `d` holds of. -/
def fl (d : ℕ → Bool) (v : Row) : Row := fun i => if d i.val then turn (v i) else v i

theorem at'_fl (d : ℕ → Bool) (v : Row) {n : ℕ} (h : n < 2 ^ 14) :
    at' (fl d v) n = if d n then turn (at' v n) else at' v n := by
  rw [at'_of_lt _ h, at'_of_lt _ h]
  rfl

theorem fl_fl (d e : ℕ → Bool) (v : Row) : fl d (fl e v) = fl (fun n => e n ^^ d n) v := by
  funext i
  unfold fl
  cases hd : d i.val <;> cases he : e i.val <;> simp [hd, he, turn_turn]

theorem fl_congr {d e : ℕ → Bool} (h : ∀ n < 2 ^ 14, d n = e n) (v : Row) : fl d v = fl e v := by
  funext i
  unfold fl
  rw [h i.val i.isLt]

theorem fl_false (v : Row) : fl (fun _ => false) v = v := rfl

/-- The bit `k` of a number. -/
def bit (k n : ℕ) : Bool := decide (n / 2 ^ k % 2 = 1)

theorem bit_eq (k n : ℕ) : bit k n = (decide (n &&& 2 ^ k = 0) == false) := by
  have h : (n &&& 2 ^ k = 0) ↔ n / 2 ^ k % 2 = 0 := by
    rw [and_two_pow_eq_zero_iff_testBit, Nat.testBit_eq_decide_div_mod_eq]
    simp
  unfold bit
  rcases Nat.mod_two_eq_zero_or_one (n / 2 ^ k) with e | e
  · rw [decide_eq_true (h.mpr e), e]; rfl
  · have hh : ¬(n &&& 2 ^ k = 0) := fun hh => by have := h.mp hh; omega
    rw [decide_eq_false hh, e]; rfl

theorem and_eq_zero_of_mod {k n : ℕ} (e : n / 2 ^ k % 2 = 0) : n &&& 2 ^ k = 0 := by
  rw [and_two_pow_eq_zero_iff_testBit, Nat.testBit_eq_decide_div_mod_eq]
  simp [e]

/-- Every position exchanged with its partner `2 ^ s` away, the smaller pair to the earlier position. -/
def asc (s : ℕ) (v : Row) : Row := Network.apply (stage 14 s fun _ => false) v

theorem lt_of_low {s n : ℕ} (hs : s < 14) (hn : n < 2 ^ 14) (e : n / 2 ^ s % 2 = 0) : n + 2 ^ s < 2 ^ 14 := by
  have h := (partner 14 s ⟨n, hn⟩).isLt
  rwa [partner_val_of_clear hs ⟨n, hn⟩ (and_eq_zero_of_mod e)] at h

/-- At a position without the bit the exchange leaves the smaller pair. -/
theorem asc_low {s n : ℕ} (hs : s < 14) (hn : n < 2 ^ 14) (e : n / 2 ^ s % 2 = 0) (v : Row) :
    at' (asc s v) n = min (at' v n) (at' v (n + 2 ^ s)) := by
  have h := (apply_stage hs (fun _ => false) v ⟨n, hn⟩ (and_eq_zero_of_mod e)).1
  have hp : partner 14 s ⟨n, hn⟩ = ⟨n + 2 ^ s, lt_of_low hs hn e⟩ :=
    Fin.ext (partner_val_of_clear hs ⟨n, hn⟩ (and_eq_zero_of_mod e))
  rw [at'_of_lt _ hn, at'_of_lt _ hn, at'_of_lt _ (lt_of_low hs hn e)]
  rw [hp] at h
  exact h

/-- … and at its partner the greater. -/
theorem asc_high {s n : ℕ} (hs : s < 14) (hn : n < 2 ^ 14) (e : n / 2 ^ s % 2 = 0) (v : Row) :
    at' (asc s v) (n + 2 ^ s) = max (at' v n) (at' v (n + 2 ^ s)) := by
  have h := (apply_stage hs (fun _ => false) v ⟨n, hn⟩ (and_eq_zero_of_mod e)).2
  have hp : partner 14 s ⟨n, hn⟩ = ⟨n + 2 ^ s, lt_of_low hs hn e⟩ :=
    Fin.ext (partner_val_of_clear hs ⟨n, hn⟩ (and_eq_zero_of_mod e))
  rw [at'_of_lt _ hn, at'_of_lt _ (lt_of_low hs hn e), at'_of_lt _ (lt_of_low hs hn e)]
  rw [hp] at h
  exact h

/-- On pairs turned over by a rule that partners share, exchanging in one direction is exchanging in the rule's direction. -/
theorem asc_fl {s : ℕ} (hs : s < 14) (d : ℕ → Bool) (hd : ∀ i : Fin (2 ^ 14), d (partner 14 s i).val = d i.val) (v : Row) :
    asc s (fl d v) = fl d (Network.apply (stage 14 s fun i => d i.val) v) := by
  have key : ∀ i : Fin (2 ^ 14), i.val &&& 2 ^ s = 0 →
      asc s (fl d v) i = fl d (Network.apply (stage 14 s fun i => d i.val) v) i
        ∧ asc s (fl d v) (partner 14 s i) = fl d (Network.apply (stage 14 s fun i => d i.val) v) (partner 14 s i) := by
    intro i hi
    obtain ⟨h1, h2⟩ := apply_stage hs (fun _ => false) (fl d v) i hi
    obtain ⟨h3, h4⟩ := apply_stage hs (fun i => d i.val) v i hi
    unfold asc
    rw [h1, h2]
    unfold fl
    rw [h3, h4, hd i]
    cases d i.val
    · exact ⟨rfl, rfl⟩
    · exact ⟨min_turn _ _, max_turn _ _⟩
  funext i
  by_cases hi : i.val &&& 2 ^ s = 0
  · exact (key i hi).1
  · have h := (key (partner 14 s i) (partner_and_of_set hs i hi)).2
    rwa [partner_partner hs] at h

/-- The exchanges at the distances `2 ^ (j - 1)` down to 1. -/
def mrg : ℕ → Row → Row
  | 0, v => v
  | j + 1, v => mrg j (asc j v)

theorem bit_partner {k s : ℕ} (hs : s < 14) (hk : s < k) (i : Fin (2 ^ 14)) : bit k (partner 14 s i).val = bit k i.val := by
  unfold bit
  rw [← Nat.testBit_eq_decide_div_mod_eq, ← Nat.testBit_eq_decide_div_mod_eq, partner_val hs, Nat.testBit_xor, Nat.testBit_two_pow,
    decide_eq_false (by omega), Bool.xor_false]

theorem mrg_fl {k : ℕ} (v : Row) : ∀ (j : ℕ), j ≤ k → j ≤ 14 → mrg j (fl (bit k) v)
    = fl (bit k) (Network.apply ((List.range j).reverse.flatMap fun s => stage 14 s fun i => bit k i.val) v) := by
  intro j
  induction j generalizing v with
  | zero => intro _ _; rfl
  | succ j ih =>
    intro h h'
    rw [List.range_succ, List.reverse_append, List.reverse_singleton, List.singleton_append, List.flatMap_cons,
      Network.apply_append, ← ih _ (by omega) (by omega), ← asc_fl (by omega) _ (fun i => bit_partner (by omega) (by omega) i)]
    rfl

/-- The network after its first levels, the pairs turned over as the next exchange wants them. -/
def st (v : Row) : ℕ → Row
  | 0 => v
  | 1 => mrg 1 (fl (bit 1) v)
  | k + 2 => mrg (k + 2) (fl (fun n => bit (k + 1) n ^^ bit (k + 2) n) (st v (k + 1)))

theorem st_eq (v : Row) : ∀ k : ℕ, k + 1 ≤ 14 → st v (k + 1) = fl (bit (k + 1)) (Network.apply (levelsNet 14 false (k + 1)) v) := by
  have hl : ∀ (k : ℕ), (k + 1 ≤ 14) → ∀ u : Row,
      mrg (k + 1) (fl (bit (k + 1)) u) = fl (bit (k + 1)) (Network.apply (levelNet 14 false k) u) := by
    intro k hk u
    rw [mrg_fl u (k + 1) (le_refl _) hk]
    unfold levelNet
    simp only [bit_eq]
  intro k
  induction k with
  | zero =>
    intro hk
    rw [levelsNet_succ, Network.apply_append]
    exact hl 0 hk v
  | succ k ih =>
    intro hk
    rw [levelsNet_succ, Network.apply_append, ← hl (k + 1) hk]
    show mrg (k + 2) (fl _ (st v (k + 1))) = _
    rw [ih (by omega), fl_fl]
    refine congrArg (mrg (k + 2)) (fl_congr (fun n _ => ?_) _)
    cases bit (k + 1) n <;> simp

theorem bit_top {n : ℕ} (h : n < 2 ^ 14) : bit 14 n = false := by
  unfold bit
  rw [Nat.div_eq_of_lt h]
  rfl

/-- After the last level the pairs ascend. -/
theorem monotone_st (v : Row) : Monotone (st v 14) := by
  rw [st_eq v 13 (le_refl _), fl_congr (e := fun _ => false) (fun n h => bit_top h), fl_false, ← sortNet_eq_levelsNet]
  exact sortNet_apply_monotone 14 v

/-- The last level leaves the pairs the network began with, in another order. -/
theorem exists_perm_st (v : Row) : ∃ σ : Equiv.Perm (Fin (2 ^ 14)), st v 14 = v ∘ σ := by
  rw [st_eq v 13 (le_refl _), fl_congr (e := fun _ => false) (fun n h => bit_top h), fl_false]
  exact Network.exists_perm _ v

end Cert.KernelIdeal.Net
-- ==== Proof.Pass.lean ====
/- What the passes of the kernel's network do to the pairs, position by position: position `r + 128 * c` is the element at row `r`
   of lane `c`. -/
module

public import proofs.«01_k».proof.Proof.Net
public import proofs.«01_k».proof.Proof.Order
public import Idealize.ShloMosaic.Lib.Pointwise.Index
public import Idealize.ShloMosaic.Lib.Pointwise.SelectCore
public import Idealize.ShloMosaic.Lib.Pipeline.Value

@[expose] public section

noncomputable section

namespace Cert.KernelIdeal.Net

open Idealize.ShloMosaic Idealize.ShloMosaic.SortNet

theorem select_one {α : Type} (a b : α) : Scalar.select 1#1 a b = a := rfl

theorem select_zero {α : Type} (a b : α) : Scalar.select 0#1 a b = b := rfl

section pointwise
variable {s : Shape}

/-- The pair at an index of a tile. -/
def ent (p : St Ideal s) (i : s.Idx) : Ent := toLex (p.1 i, (p.2 i).toInt)

/-- The comparison of two pairs is the lexicographic one. -/
theorem less_apply (p q : St Ideal s) (i : s.Idx) :
    less p.1 q.1 p.2 q.2 i = BitVec.ofBool (decide (ent p i < ent q i)) := by
  have h : ent p i < ent q i ↔ p.1 i < q.1 i ∨ p.1 i = q.1 i ∧ (p.2 i).toInt < (q.2 i).toInt := Prod.Lex.lt_iff
  show Ideal.cmp .olt (p.1 i) (q.1 i) ||| (Ideal.cmp .oeq (p.1 i) (q.1 i) &&& BitVec.ofBool ((p.2 i).slt (q.2 i))) = _
  unfold Ideal.cmp BitVec.slt
  by_cases h1 : p.1 i < q.1 i <;> by_cases h2 : p.1 i = q.1 i <;> by_cases h3 : (p.2 i).toInt < (q.2 i).toInt <;> simp [h, h1, h2, h3]

theorem ent_select (m : IVec s 1) (p q : St Ideal s) (i : s.Idx) {b : Bool} (hm : m i = BitVec.ofBool b) :
    ent (select m p.1 q.1, select m p.2 q.2) i = if b then ent p i else ent q i := by
  unfold ent
  show toLex (Scalar.select (m i) (p.1 i) (q.1 i), (Scalar.select (m i) (p.2 i) (q.2 i)).toInt) = _
  rw [hm]
  cases b <;> rfl

theorem ite_lt_min (a b : Ent) : (if decide (b < a) then b else a) = min a b := by
  by_cases h : b < a
  · rw [decide_eq_true h, min_eq_right h.le]; rfl
  · rw [decide_eq_false h, min_eq_left (not_lt.mp h)]; rfl

theorem ite_lt_max (a b : Ent) : (if decide (b < a) then a else b) = max a b := by
  by_cases h : b < a
  · rw [decide_eq_true h, max_eq_left h.le]; rfl
  · rw [decide_eq_false h, max_eq_right (not_lt.mp h)]; rfl

theorem ent_mn (p q : St Ideal s) (i : s.Idx) : ent (mn p q) i = min (ent p i) (ent q i) := by
  unfold mn
  rw [ent_select _ q p i (less_apply q p i), ite_lt_min]

theorem ent_mx (p q : St Ideal s) (i : s.Idx) : ent (mx p q) i = max (ent p i) (ent q i) := by
  unfold mx
  rw [ent_select _ p q i (less_apply q p i), ite_lt_max]

/-- The compare with a partner keeps the smaller pair where the mask is set, the greater elsewhere. -/
theorem ent_ce (lo : IVec s 1) (q p : St Ideal s) (i : s.Idx) {b : Bool} (hb : lo i = BitVec.ofBool b) :
    ent (ce lo q p) i = if b then min (ent p i) (ent q i) else max (ent p i) (ent q i) := by
  unfold ce
  rw [ent_select _ q p i (b := decide (ent q i < ent p i) == b)]
  · cases b
    · rw [← ite_lt_max]
      cases decide (ent q i < ent p i) <;> rfl
    · rw [← ite_lt_min]
      cases decide (ent q i < ent p i) <;> rfl
  · show less q.1 p.1 q.2 p.2 i ^^^ lo i ^^^ 1#1 = _
    rw [less_apply, hb]
    cases decide (ent q i < ent p i) <;> cases b <;> rfl

theorem toInt_xor_ones (x : BitVec 32) : (x ^^^ 4294967295#32).toInt = -1 - x.toInt := by
  have h : x ^^^ 4294967295#32 = ~~~x := by
    rw [show (4294967295#32 : BitVec 32) = BitVec.allOnes 32 from rfl, BitVec.xor_allOnes]
  rw [h, BitVec.toInt_eq_toNat_cond, BitVec.toInt_eq_toNat_cond, BitVec.toNat_not]
  have := x.isLt
  split <;> split <;> omega

/-- The mask of `d`: all ones where it holds. -/
def mask (d : Bool) : BitVec 32 := if d then 4294967295#32 else 0#32

theorem mask_xor (a b : Bool) : mask a ^^^ mask b = mask (a ^^ b) := by cases a <;> cases b <;> rfl

/-- A pair is turned over where the mask is all ones. -/
theorem ent_flip (f : IVec s 32) (p : St Ideal s) (i : s.Idx) {d : Bool} (hd : f i = mask d) :
    ent (flip f p) i = if d then turn (ent p i) else ent p i := by
  have h0 : Ideal.ofBits .f32 0x00000000#32 = 0 := by simp [Ideal.ofBits, Ideal.ieee]
  unfold flip ent turn
  show toLex (Scalar.select (IntOp.cmpi .eq (f i) 0#32) (p.1 i) (Ideal.ofBits .f32 0x00000000#32 - p.1 i), (p.2 i ^^^ f i).toInt) = _
  rw [hd, h0]
  cases d
  · show toLex (p.1 i, (p.2 i ^^^ 0#32).toInt) = toLex (p.1 i, (p.2 i).toInt)
    rw [BitVec.xor_zero]
  · show toLex (0 - p.1 i, (p.2 i ^^^ 4294967295#32).toInt) = toLex (-p.1 i, -1 - (p.2 i).toInt)
    rw [toInt_xor_ones, zero_sub]

theorem ofNat_and_two_pow {n k : ℕ} (hn : n < 2 ^ 32) (hk : k < 32) :
    (BitVec.ofNat 32 n &&& BitVec.ofNat 32 (2 ^ k)) = 0#32 ↔ bit k n = false := by
  rw [bit_eq, ← BitVec.toNat_inj, BitVec.toNat_and, BitVec.toNat_ofNat, BitVec.toNat_ofNat, Nat.mod_eq_of_lt hn,
    Nat.mod_eq_of_lt (Nat.pow_lt_pow_right (by decide) hk)]
  simp

/-- Where a coordinate lacks a bit. -/
theorem low_apply (x : IVec s 32) {n k : ℕ} (i : s.Idx) (hx : x i = BitVec.ofNat 32 n) (hn : n < 2 ^ 32) (hk : k < 32) :
    low x (BitVec.ofNat 32 (2 ^ k)) i = BitVec.ofBool (!bit k n) := by
  show BitVec.ofBool (x i &&& BitVec.ofNat 32 (2 ^ k) == 0#32) = _
  have e : ∀ b : Bool, BitVec.ofBool (decide (b = false)) = BitVec.ofBool (!b) := by decide
  rw [hx, beq_eq_decide, decide_eq_decide.mpr (ofNat_and_two_pow hn hk), e]

/-- The mask of a bit of a coordinate. -/
theorem dir_apply (x : IVec s 32) {n k : ℕ} (i : s.Idx) (hx : x i = BitVec.ofNat 32 n) (hn : n < 2 ^ 32) (hk : k < 32) :
    dir x (BitVec.ofNat 32 (2 ^ k)) i = mask (bit k n) := by
  show 0#32 - (BitVec.ofBool (x i &&& BitVec.ofNat 32 (2 ^ k) != 0#32)).setWidth 32 = _
  have e : ∀ b : Bool, 0#32 - (BitVec.ofBool !(decide (b = false))).setWidth 32 = mask b := by decide
  rw [hx, bne, beq_eq_decide, decide_eq_decide.mpr (ofNat_and_two_pow hn hk), e]

end pointwise

/-- The tile of `n` rows from row `o` on holds the pairs `v`. -/
def Rep (n o : ℕ) (p : St Ideal (Tile n 128)) (v : Row) : Prop :=
  ∀ (r : Fin n) (c : Fin 128), ent p (ix2 r c) = at' v (o + r.val + 128 * c.val)

section tiles
variable {v : Row}

theorem slice_rows_apply {α : Type} {n k o b : ℕ} (x : (Tile n b).Idx → α) (h : (Tile n b).Slices ![o, 0] (Tile k b))
    (r : Fin k) (c : Fin b) (hr : o + r.val < n) :
    extractStridedSlice (Tile k b) ![o, 0] x h (ix2 r c) = x (ix2 ⟨o + r.val, hr⟩ c) :=
  extractStridedSlice_apply _ x h _ _ (Fin.forall_fin_two.mpr ⟨rfl, (Nat.zero_add _).symm⟩)

/-- A cut of a tile holds the same pairs, from the row where it begins. -/
theorem rep_cut {n k o o' : ℕ} {p : St Ideal (Tile n 128)} (hp : Rep n o p v) (h : o' + k ≤ n) : Rep k (o + o') (cut k o' h p) v := by
  intro r c
  have hr : o' + r.val < n := by omega
  have hs : (Tile n 128).Slices ![o', 0] (Tile k 128) := slices_tile h (by omega)
  rw [show ent (cut k o' h p) (ix2 r c) = ent p (ix2 ⟨o' + r.val, hr⟩ c) from
    congrArg toLex (Prod.ext (slice_rows_apply p.1 hs r c hr)
      (congrArg BitVec.toInt (slice_rows_apply p.2 hs r c hr))), hp]
  exact congrArg (at' v) (by show o + (o' + r.val) + _ = _; omega)

theorem joined_apply {α : Type} {n k : ℕ} (l : List (St Ideal (Tile k 128))) (f : St Ideal (Tile k 128) → (Tile k 128).Idx → α)
    (h : Shape.Concatenates ((l.map fun p => (⟨Tile k 128, f p⟩ : (s : Shape) × (s.Idx → α))).map (·.1)) (Tile n 128) 0)
    (r : Fin n) (c : Fin 128) (hk : 0 < k) (ht : r.val / k < l.length) :
    concatenate (Tile n 128) 0 (l.map fun p => ⟨Tile k 128, f p⟩) h (ix2 r c)
      = f l[r.val / k] (ix2 ⟨r.val % k, Nat.mod_lt _ hk⟩ c) := by
  refine concatenate_apply_piece (t := Tile n 128) 0 _ h (ix2 r c) (r.val / k) (by simpa using ht) (Tile k 128) (f l[r.val / k])
    (by simp) rfl (k * (r.val / k)) ?_ _ ?_ ?_
  · have e : ∀ m : List (St Ideal (Tile k 128)),
        (((m.map fun p => (⟨Tile k 128, f p⟩ : (s : Shape) × (s.Idx → α))).map (·.1)).map fun s : Shape =>
          if h : s.rank = (Tile n 128).rank then s.size ((0 : Fin (Tile n 128).rank).cast h.symm) else 0).sum = k * m.length := by
      intro m
      induction m with
      | nil => rfl
      | cons a m ih =>
        simp only [List.map_cons, List.sum_cons, List.length_cons, ih]
        show k + k * m.length = _
        rw [Nat.mul_add, Nat.mul_one, Nat.add_comm]
    rw [← List.map_take, e, List.length_take, Nat.min_eq_left (by omega)]
  · refine Fin.forall_fin_two.mpr ⟨fun hne => absurd rfl hne, fun _ => rfl⟩
  · exact Nat.div_add_mod r.val k

/-- The pair in row `r` of tiles laid one below the other. -/
theorem ent_join {n k : ℕ} (l : List (St Ideal (Tile k 128))) (h : Shape.Concatenates (l.map fun _ => Tile k 128) (Tile n 128) 0)
    (hk : 0 < k) (r : Fin n) (c : Fin 128) (ht : r.val / k < l.length) :
    ent (join n k l h) (ix2 r c) = ent l[r.val / k] (ix2 ⟨r.val % k, Nat.mod_lt _ hk⟩ c) :=
  congrArg toLex (Prod.ext (joined_apply l (·.1) (by simpa [Function.comp_def] using h) r c hk ht)
    (congrArg BitVec.toInt (joined_apply l (·.2) (by simpa [Function.comp_def] using h) r c hk ht)))

/-- Tiles laid one below the other hold the pairs at the places `g` that each holds for its rows. -/
theorem at_join {n k : ℕ} {g : ℕ → ℕ} (l : List (St Ideal (Tile k 128)))
    (h : Shape.Concatenates (l.map fun _ => Tile k 128) (Tile n 128) 0) (hk : 0 < k) (hn : n = k * l.length)
    (hl : ∀ (t : ℕ) (ht : t < l.length) (r : Fin k) (c : Fin 128), ent l[t] (ix2 r c) = at' v (g (k * t + r.val) + 128 * c.val))
    (r : Fin n) (c : Fin 128) : ent (join n k l h) (ix2 r c) = at' v (g r.val + 128 * c.val) := by
  have ht : r.val / k < l.length := by
    rw [Nat.div_lt_iff_lt_mul hk, Nat.mul_comm]
    have := r.isLt
    omega
  rw [ent_join l h hk r c ht, hl _ ht]
  exact congrArg (fun q => at' v (g q + 128 * c.val)) (Nat.div_add_mod r.val k)

/-- Tiles laid one below the other hold the pairs that each holds from its row on. -/
theorem rep_join {n k o : ℕ} (l : List (St Ideal (Tile k 128)))
    (h : Shape.Concatenates (l.map fun _ => Tile k 128) (Tile n 128) 0) (hk : 0 < k) (hn : n = k * l.length)
    (hl : ∀ (t : ℕ) (ht : t < l.length), Rep k (o + k * t) l[t] v) : Rep n o (join n k l h) v :=
  at_join (g := fun q => o + q) l h hk hn fun t ht r c => (hl t ht r c).trans
    (congrArg (at' v) (by show o + k * t + r.val + _ = o + (k * t + r.val) + _; omega))

/-- The smaller pairs of two cuts `2 ^ s` rows apart. -/
theorem rep_mn {n k o o₁ o₂ q s : ℕ} {p : St Ideal (Tile n 128)} (hp : Rep n o p v) (h₁ : o₁ + k ≤ n) (h₂ : o₂ + k ≤ n)
    (hs : s < 14) (ho : o + n ≤ 128) (h : o₂ = o₁ + 2 ^ s) (hq : q = o + o₁)
    (hb : ∀ r < k, ∀ c < 128, (o + o₁ + r + 128 * c) / 2 ^ s % 2 = 0) :
    Rep k q (mn (cut k o₁ h₁ p) (cut k o₂ h₂ p)) (asc s v) := by
  intro r c
  subst hq h
  rw [ent_mn, rep_cut hp h₁, rep_cut hp h₂, asc_low hs (by omega) (hb r.val r.isLt c.val c.isLt)]
  exact congrArg (min _) (congrArg (at' v) (by omega))

/-- The greater pairs of two cuts `2 ^ s` rows apart. -/
theorem rep_mx {n k o o₁ o₂ q s : ℕ} {p : St Ideal (Tile n 128)} (hp : Rep n o p v) (h₁ : o₁ + k ≤ n) (h₂ : o₂ + k ≤ n)
    (hs : s < 14) (ho : o + n ≤ 128) (h : o₂ = o₁ + 2 ^ s) (hq : q = o + o₂)
    (hb : ∀ r < k, ∀ c < 128, (o + o₁ + r + 128 * c) / 2 ^ s % 2 = 0) :
    Rep k q (mx (cut k o₁ h₁ p) (cut k o₂ h₂ p)) (asc s v) := by
  intro r c
  subst hq h
  rw [ent_mx, rep_cut hp h₁, rep_cut hp h₂,
    show o + (o₁ + 2 ^ s) + r.val + 128 * c.val = o + o₁ + r.val + 128 * c.val + 2 ^ s by omega,
    asc_high hs (by omega) (hb r.val r.isLt c.val c.isLt)]

theorem rep_blk64 {p : St Ideal (Tile 128 128)} (hp : Rep 128 0 p v) : Rep 128 0 (blk64 p) (asc 6 v) := by
  refine rep_join _ _ (by omega) rfl fun t ht => ?_
  have ht' : t < 2 := ht
  interval_cases t
  · exact rep_mn hp _ _ (by omega) (by omega) rfl rfl (fun r _ c _ => by omega)
  · exact rep_mx hp _ _ (by omega) (by omega) rfl rfl (fun r _ c _ => by omega)

attribute [local irreducible] mn mx

section half
variable {o : ℕ} {p : St Ideal (Tile 64 128)} (ho : o % 64 = 0) (ho' : o ≤ 64)
include ho ho'

theorem rep_blk32 (hp : Rep 64 o p v) : Rep 64 o (blk32 p) (asc 5 v) := by
  refine rep_join _ _ (by omega) rfl fun t ht => ?_
  have ht' : t < 2 := ht
  interval_cases t
  · exact rep_mn hp _ _ (by omega) (by omega) rfl rfl (fun r _ c _ => by omega)
  · exact rep_mx hp _ _ (by omega) (by omega) rfl rfl (fun r _ c _ => by omega)

theorem rep_blk16 (hp : Rep 64 o p v) : Rep 64 o (blk16 p) (asc 4 v) := by
  refine rep_join _ _ (by omega) rfl fun t ht => ?_
  have ht' : t < 4 := ht
  interval_cases t
  all_goals first
    | exact rep_mn hp _ _ (by omega) (by omega) rfl rfl (fun r _ c _ => by omega)
    | exact rep_mx hp _ _ (by omega) (by omega) rfl rfl (fun r _ c _ => by omega)

theorem rep_blk8 (hp : Rep 64 o p v) : Rep 64 o (blk8 p) (asc 3 v) := by
  refine rep_join _ _ (by omega) rfl fun t ht => ?_
  have ht' : t < 8 := ht
  interval_cases t
  all_goals first
    | exact rep_mn hp _ _ (by omega) (by omega) rfl rfl (fun r _ c _ => by omega)
    | exact rep_mx hp _ _ (by omega) (by omega) rfl rfl (fun r _ c _ => by omega)

end half

/-! ## The passes that read a partner through a permuted copy -/

theorem rows8_apply (r : Fin 8) (c : Fin 128) : rows8 (ix2 r c) = BitVec.ofNat 32 r.val :=
  iota_single_apply .tc S8x128 32 0 _ (ix2 r c)

theorem rows64_apply (r : Fin 64) (c : Fin 128) : rows64 (ix2 r c) = BitVec.ofNat 32 r.val :=
  iota_single_apply .tc S64x128 32 0 _ (ix2 r c)

theorem rows_apply (r c : Fin 128) : rows (ix2 r c) = BitVec.ofNat 32 r.val :=
  iota_single_apply .tc S128x128 32 0 _ (ix2 r c)

theorem cols_apply (r c : Fin 128) : cols (ix2 r c) = BitVec.ofNat 32 c.val :=
  iota_single_apply .tc S128x128 32 1 _ (ix2 r c)

/-- The partner of `n`: the number that differs from it in the bit `s`. -/
def far (s n : ℕ) : ℕ := if n / 2 ^ s % 2 = 0 then 2 ^ s + n else n - 2 ^ s

theorem xor_far {s n : ℕ} (hs : s < 7) (hn : n < 128) : n ^^^ 2 ^ s = far s n := by
  have h : ∀ s < 7, ∀ n < 128, n ^^^ 2 ^ s = far s n := by decide +kernel
  exact h s hs n hn

/-- A place that is not negative is taken as it is. -/
theorem wrap_apply {s t : Shape} (n : BitVec 32) (h : s.ShapeCasts t) (h' : t.ShapeCasts s) (i : IVec s 32) (j : s.Idx) {k : ℕ}
    (hi : i j = BitVec.ofNat 32 k) (hk : k < 128) : wrap n h h' i j = BitVec.ofNat 32 k := by
  unfold wrap
  rw [shapeCast_shapeCast]
  show Scalar.select (BitVec.ofBool ((i j).slt 0#32)) (i j + n) (i j) = _
  have e : (BitVec.ofNat 32 k).slt 0#32 = false := by
    unfold BitVec.slt
    rw [BitVec.toInt_eq_toNat_cond, BitVec.toNat_ofNat, Nat.mod_eq_of_lt (by omega), if_pos (by omega)]
    exact decide_eq_false (not_lt.mpr (Int.natCast_nonneg k))
  rw [hi, e]
  exact select_zero _ _

/-- The partners' places as the gather takes them. -/
theorem wrap_far {s t : Shape} (m : BitVec 32) (h : s.ShapeCasts t) (h' : t.ShapeCasts s) (i : IVec s 32) (j : s.Idx) {k n : ℕ}
    (hi : i j = BitVec.ofNat 32 n) (hk : k < 7) (hn : n < 128) (hf : far k n < 128) :
    (wrap m h h' (xori i (broadcast s (BitVec.ofNat 32 (2 ^ k)))) j).toNat = far k n := by
  have hp : 2 ^ k ≤ 2 ^ 6 := Nat.pow_le_pow_right (by omega) (by omega)
  rw [wrap_apply m h h' _ j (k := far k n) _ hf, BitVec.toNat_ofNat, Nat.mod_eq_of_lt (by omega)]
  show i j ^^^ BitVec.ofNat 32 (2 ^ k) = _
  rw [hi, ← xor_far hk hn]
  apply BitVec.eq_of_toNat_eq
  rw [BitVec.toNat_xor, BitVec.toNat_ofNat, BitVec.toNat_ofNat, BitVec.toNat_ofNat, Nat.mod_eq_of_lt (by omega),
    Nat.mod_eq_of_lt (by omega), Nat.mod_eq_of_lt (by rw [xor_far hk hn]; omega)]

theorem far_lt {a k n : ℕ} (hk : k < 7) (ha : a % 2 ^ (k + 1) = 0) (hn : n < a) : far k n < a := by
  unfold far
  interval_cases k <;> split <;> omega

/-- A gather along the rows reads the row that it is told. -/
theorem gather_rows_apply {α : Type} {a b : ℕ} (x : (Tile a b).Idx → α) (i : IVec (Tile a b) 32) (r : Fin a) (c : Fin b) {q : ℕ}
    (hi : (i (ix2 r c)).toNat = q) (hq : q < a) : dynamicGather 0 x i (ix2 r c) = x (ix2 ⟨q, hq⟩ c) := by
  subst hi
  exact congrArg x (funext (Fin.forall_fin_two.mpr ⟨Fin.ext (Nat.mod_eq_of_lt hq), rfl⟩))

/-- A gather along the lanes reads the lane that it is told. -/
theorem gather_lanes_apply {α : Type} {a b : ℕ} (x : (Tile a b).Idx → α) (i : IVec (Tile a b) 32) (r : Fin a) (c : Fin b) {q : ℕ}
    (hi : (i (ix2 r c)).toNat = q) (hq : q < b) : dynamicGather 1 x i (ix2 r c) = x (ix2 r ⟨q, hq⟩) := by
  subst hi
  exact congrArg x (funext (Fin.forall_fin_two.mpr ⟨rfl, Fin.ext (Nat.mod_eq_of_lt hq)⟩))

theorem ent_swap8 {s : ℕ} (hs : s < 3) (p : St Ideal (Tile 8 128)) (r : Fin 8) (c : Fin 128) (hf : far s r.val < 8) :
    ent (swap8 (BitVec.ofNat 32 (2 ^ s)) p) (ix2 r c) = ent p (ix2 ⟨far s r.val, hf⟩ c) := by
  have hi : ∀ h h', (wrap 8#32 h h' (xori rows8 (broadcast S8x128 (BitVec.ofNat 32 (2 ^ s)))) (ix2 r c)).toNat = far s r.val :=
    fun h h' => wrap_far (t := S8x128x1) 8#32 h h' rows8 (ix2 r c) (rows8_apply r c) (by omega) (by omega) (by omega)
  exact congrArg toLex (Prod.ext (gather_rows_apply p.1 _ r c (hi _ _) hf)
    (congrArg BitVec.toInt (gather_rows_apply p.2 _ r c (hi _ _) hf)))

theorem ent_swapLanes {s : ℕ} (hs : s < 7) (p : St Ideal (Tile 128 128)) (r c : Fin 128) (hf : far s c.val < 128) :
    ent (swapLanes (BitVec.ofNat 32 (2 ^ s)) p) (ix2 r c) = ent p (ix2 r ⟨far s c.val, hf⟩) := by
  have hi : ∀ h h', (wrap 128#32 h h' (xori cols (broadcast S128x128 (BitVec.ofNat 32 (2 ^ s)))) (ix2 r c)).toNat = far s c.val :=
    fun h h' => wrap_far (t := S128x128x1) 128#32 h h' cols (ix2 r c) (cols_apply r c) hs c.isLt hf
  exact congrArg toLex (Prod.ext (gather_lanes_apply p.1 _ r c (hi _ _) hf)
    (congrArg BitVec.toInt (gather_lanes_apply p.2 _ r c (hi _ _) hf)))

/-- The partners by blocks of eight rows. -/
theorem ent_swapRows {s o : ℕ} {p : St Ideal (Tile 64 128)} (hs : s < 2) (hp : Rep 64 o p v) (r : Fin 64) (c : Fin 128) :
    ent (swapRows (BitVec.ofNat 32 (2 ^ s)) p) (ix2 r c) = at' v (o + far s r.val + 128 * c.val) := by
  have hb : ∀ (t o' : ℕ) (h : o' + 8 ≤ 64) (ho : o' = 8 * t) (r : Fin 8) (c : Fin 128),
      ent (swap8 (BitVec.ofNat 32 (2 ^ s)) (cut 8 o' h p)) (ix2 r c) = at' v (o + far s (8 * t + r.val) + 128 * c.val) := by
    intro t o' h ho r c
    have hf : far s r.val < 8 := far_lt (by omega) (by interval_cases s <;> rfl) r.isLt
    rw [ent_swap8 (by omega) _ r c hf, rep_cut hp h]
    refine congrArg (at' v) ?_
    show o + o' + far s r.val + _ = _
    have : far s (8 * t + r.val) = 8 * t + far s r.val := by
      unfold far
      interval_cases s <;> split <;> split <;> omega
    omega
  unfold swapRows
  refine at_join (k := 8) (g := fun q => o + far s q) _ _ (by omega) ?_ (fun t ht => ?_) r c
  · rfl
  have ht' : t < 8 := ht
  interval_cases t <;> exact hb _ _ _ rfl

/-- The partners four rows away. -/
theorem ent_swapFours {o : ℕ} {p : St Ideal (Tile 64 128)} (hp : Rep 64 o p v) (r : Fin 64) (c : Fin 128) :
    ent (swapFours p) (ix2 r c) = at' v (o + far 2 r.val + 128 * c.val) := by
  have hb : ∀ (t o' : ℕ) (h : o' + 4 ≤ 64) (ho : o' = 4 * t + 4 ∧ t % 2 = 0 ∨ o' + 4 = 4 * t ∧ t % 2 = 1) (r : Fin 4) (c : Fin 128),
      ent (cut 4 o' h p) (ix2 r c) = at' v (o + far 2 (4 * t + r.val) + 128 * c.val) := by
    intro t o' h ho r c
    rw [rep_cut hp h]
    refine congrArg (at' v) ?_
    unfold far
    split <;> omega
  unfold swapFours
  refine at_join (k := 4) (g := fun q => o + far 2 q) _ _ (by omega) ?_ (fun t ht => ?_) r c
  · rfl
  have ht' : t < 16 := ht
  interval_cases t <;> exact hb _ _ (by omega) (by omega)

/-- The arithmetic of a pass between rows: the bit of the position is the bit of the row, and the partner stays in the half. -/
theorem row_bit {s o r c : ℕ} (hs : s < 6) (ho : o % 64 = 0) (hr : r < 64) :
    (o + r + 128 * c) / 2 ^ s % 2 = r / 2 ^ s % 2 ∧ (r / 2 ^ s % 2 = 0 → 2 ^ s + r < 64) ∧
      (r / 2 ^ s % 2 = 1 → 2 ^ s ≤ r ∧ (o + (r - 2 ^ s) + 128 * c) / 2 ^ s % 2 = 0) := by
  interval_cases s <;> omega

/-- The arithmetic of a pass between lanes. -/
theorem lane_bit {s r c : ℕ} (hs : s < 7) (hr : r < 128) (hc : c < 128) :
    (r + 128 * c) / 2 ^ (7 + s) % 2 = c / 2 ^ s % 2 ∧ (c / 2 ^ s % 2 = 0 → 2 ^ s + c < 128) ∧
      (c / 2 ^ s % 2 = 1 → 2 ^ s ≤ c ∧ (r + 128 * (c - 2 ^ s)) / 2 ^ (7 + s) % 2 = 0) := by
  interval_cases s <;> omega

theorem rep_rollRows {s o : ℕ} {p q : St Ideal (Tile 64 128)} (hs : s < 6) (ho : o % 64 = 0) (ho' : o ≤ 64)
    (hp : Rep 64 o p v) (hq : ∀ (r : Fin 64) (c : Fin 128), ent q (ix2 r c) = at' v (o + far s r.val + 128 * c.val)) :
    Rep 64 o (rollRows (BitVec.ofNat 32 (2 ^ s)) q p) (asc s v) := by
  intro r c
  obtain ⟨e, h1, h2⟩ := row_bit (c := c.val) hs ho r.isLt
  have hlo : low rows64 (BitVec.ofNat 32 (2 ^ s)) (ix2 r c) = BitVec.ofBool (!bit s r.val) :=
    low_apply rows64 _ (rows64_apply r c) (by omega) (by omega)
  unfold rollRows
  rw [ent_ce _ _ _ _ hlo, hq r c, hp r c]
  rcases Nat.mod_two_eq_zero_or_one (r.val / 2 ^ s) with hb | hb
  · have hbit : bit s r.val = false := by unfold bit; rw [hb]; rfl
    have hn := h1 hb
    rw [hbit, asc_low (by omega) (by omega) (e.trans hb), far, if_pos hb]
    show min _ _ = _
    exact congrArg (min _) (congrArg (at' v) (by omega))
  · have hbit : bit s r.val = true := by unfold bit; rw [hb]; rfl
    obtain ⟨hn, hz⟩ := h2 hb
    rw [hbit, far, if_neg (show ¬r.val / 2 ^ s % 2 = 0 by rw [hb]; exact one_ne_zero)]
    have hr := r.isLt
    have hc := c.isLt
    have hm : r.val - 2 ^ s < 64 := Nat.lt_of_le_of_lt (Nat.sub_le _ _) r.isLt
    rw [show o + r.val + 128 * c.val = o + (r.val - 2 ^ s) + 128 * c.val + 2 ^ s by omega, asc_high (by omega) (by omega) hz]
    exact max_comm _ _

theorem rep_rollLanes {s : ℕ} {p : St Ideal (Tile 128 128)} (hs : s < 7)
    (hp : Rep 128 0 p v) : Rep 128 0 (rollLanes (BitVec.ofNat 32 (2 ^ s)) p) (asc (7 + s) v) := by
  intro r c
  obtain ⟨e, h1, h2⟩ := lane_bit hs r.isLt c.isLt
  have hpow : 2 ^ (7 + s) = 128 * 2 ^ s := by rw [Nat.pow_add]
  have hlo : low cols (BitVec.ofNat 32 (2 ^ s)) (ix2 r c) = BitVec.ofBool (!bit s c.val) :=
    low_apply cols _ (cols_apply r c) (by omega) (by omega)
  have hf : far s c.val < 128 := far_lt hs (by interval_cases s <;> rfl) c.isLt
  unfold rollLanes
  rw [ent_ce _ _ _ _ hlo, ent_swapLanes hs p r c hf, hp r c, hp r ⟨far s c.val, hf⟩, Nat.zero_add]
  show (if (!bit s c.val) = true then min _ (at' v (r.val + 128 * far s c.val)) else max _ (at' v (r.val + 128 * far s c.val))) = _
  rcases Nat.mod_two_eq_zero_or_one (c.val / 2 ^ s) with hb | hb
  · have hbit : bit s c.val = false := by unfold bit; rw [hb]; rfl
    have hn := h1 hb
    rw [hbit, asc_low (by omega) (by omega) (e.trans hb), far, if_pos hb]
    show min _ _ = _
    exact congrArg (min _) (congrArg (at' v) (by omega))
  · have hbit : bit s c.val = true := by unfold bit; rw [hb]; rfl
    obtain ⟨hn, hz⟩ := h2 hb
    rw [hbit, far, if_neg (show ¬c.val / 2 ^ s % 2 = 0 by rw [hb]; exact one_ne_zero)]
    rw [show r.val + 128 * c.val = r.val + 128 * (c.val - 2 ^ s) + 2 ^ (7 + s) by omega, asc_high (by omega) (by omega) hz]
    exact max_comm _ _

/-! ## The stages -/

/-- The pairs turned over by a bit of the position. -/
theorem rep_flip {n o : ℕ} {f : IVec (Tile n 128) 32} {d : ℕ → Bool} {p : St Ideal (Tile n 128)} (hno : o + n ≤ 128)
    (hf : ∀ (r : Fin n) (c : Fin 128), f (ix2 r c) = mask (d (o + r.val + 128 * c.val))) (hp : Rep n o p v) :
    Rep n o (flip f p) (fl d v) := by
  intro r c
  rw [ent_flip f p _ (hf r c), hp r c]
  exact (at'_fl d v (by omega)).symm

theorem bit_row {k o r c : ℕ} (hk : k < 6) (ho : o % 64 = 0) (hr : r < 64) : bit k r = bit k (o + r + 128 * c) := by
  unfold bit
  rw [(row_bit (c := c) hk ho hr).1]

theorem bit_lane {k r c : ℕ} (hk : k < 7) (hr : r < 128) (hc : c < 128) : bit k c = bit (7 + k) (0 + r + 128 * c) := by
  unfold bit
  rw [Nat.zero_add, (lane_bit hk hr hc).1]

theorem bit_six {r c : ℕ} (hr : r < 128) : bit 6 r = bit 6 (0 + r + 128 * c) := by
  unfold bit
  exact decide_eq_decide.mpr (by omega)

theorem dir_rows64 {k o : ℕ} (hk : k < 6) (ho : o % 64 = 0) (r : Fin 64) (c : Fin 128) :
    dir rows64 (BitVec.ofNat 32 (2 ^ k)) (ix2 r c) = mask (bit k (o + r.val + 128 * c.val)) := by
  rw [dir_apply rows64 (ix2 r c) (rows64_apply r c) (by omega) (by omega), bit_row hk ho r.isLt]

theorem dir_cols {k : ℕ} (hk : k < 7) (r c : Fin 128) :
    dir cols (BitVec.ofNat 32 (2 ^ k)) (ix2 r c) = mask (bit (7 + k) (0 + r.val + 128 * c.val)) := by
  rw [dir_apply cols (ix2 r c) (cols_apply r c) (by omega) (by omega), bit_lane hk r.isLt c.isLt]

theorem dir_rows (r c : Fin 128) : dir rows 64#32 (ix2 r c) = mask (bit 6 (0 + r.val + 128 * c.val)) :=
  (dir_apply (k := 6) rows (ix2 r c) (rows_apply r c) (by omega) (by omega)).trans (congrArg mask (bit_six r.isLt))

/-- Two masks together. -/
theorem mask_pair {n o : ℕ} {f g : IVec (Tile n 128) 32} {a b : ℕ → Bool}
    (hf : ∀ (r : Fin n) (c : Fin 128), f (ix2 r c) = mask (a (o + r.val + 128 * c.val)))
    (hg : ∀ (r : Fin n) (c : Fin 128), g (ix2 r c) = mask (b (o + r.val + 128 * c.val))) (r : Fin n) (c : Fin 128) :
    xori f g (ix2 r c) = mask ((fun n => a n ^^ b n) (o + r.val + 128 * c.val)) := by
  show f (ix2 r c) ^^^ g (ix2 r c) = _
  rw [hf, hg, mask_xor]

section half
variable {o : ℕ} {p : St Ideal (Tile 64 128)} (ho : o % 64 = 0) (ho' : o ≤ 64)
include ho ho'

theorem rep_tail1 (hp : Rep 64 o p v) : Rep 64 o (tail1 p) (mrg 1 v) := by
  have h := rep_rollRows (s := 0) (by omega) ho ho' hp (ent_swapRows (s := 0) (by omega) hp)
  exact h
theorem rep_tail2 (hp : Rep 64 o p v) : Rep 64 o (tail2 p) (mrg 2 v) :=
  rep_tail1 ho ho' (rep_rollRows (s := 1) (by omega) ho ho' hp (ent_swapRows (s := 1) (by omega) hp))
theorem rep_tail4 (hp : Rep 64 o p v) : Rep 64 o (tail4 p) (mrg 3 v) :=
  rep_tail2 ho ho' (rep_rollRows (s := 2) (by omega) ho ho' hp (ent_swapFours hp))
theorem rep_tail8 (hp : Rep 64 o p v) : Rep 64 o (tail8 p) (mrg 4 v) := rep_tail4 ho ho' (rep_blk8 ho ho' hp)
theorem rep_tail16 (hp : Rep 64 o p v) : Rep 64 o (tail16 p) (mrg 5 v) := rep_tail8 ho ho' (rep_blk16 ho ho' hp)
theorem rep_tail32 (hp : Rep 64 o p v) : Rep 64 o (tail32 p) (mrg 6 v) := rep_tail16 ho ho' (rep_blk32 ho ho' hp)

/-- The five first stages on a half. -/
theorem rep_stages5 (hp : Rep 64 o p v) : Rep 64 o (stages5 p) (st v 5) :=
  rep_tail16 ho ho' (rep_flip (by omega) (mask_pair (dir_rows64 (k := 4) (by omega) ho) (dir_rows64 (k := 5) (by omega) ho))
    (rep_tail8 ho ho' (rep_flip (by omega) (mask_pair (dir_rows64 (k := 3) (by omega) ho) (dir_rows64 (k := 4) (by omega) ho))
      (rep_tail4 ho ho' (rep_flip (by omega) (mask_pair (dir_rows64 (k := 2) (by omega) ho) (dir_rows64 (k := 3) (by omega) ho))
        (rep_tail2 ho ho' (rep_flip (by omega) (mask_pair (dir_rows64 (k := 1) (by omega) ho) (dir_rows64 (k := 2) (by omega) ho))
          (rep_tail1 ho ho' (rep_flip (by omega) (dir_rows64 (k := 1) (by omega) ho) hp)))))))))

end half

variable {p : St Ideal (Tile 128 128)}

/-- Two halves laid one below the other. -/
theorem rep_halves {a b : St Ideal (Tile 64 128)} (h : Shape.Concatenates ([a, b].map fun _ => Tile 64 128) (Tile 128 128) 0)
    (ha : Rep 64 0 a v) (hb : Rep 64 64 b v) : Rep 128 0 (join 128 64 [a, b] h) v := by
  refine rep_join _ _ (by omega) rfl fun t ht => ?_
  have ht' : t < 2 := ht
  interval_cases t
  · exact ha
  · exact hb

/-- The six first stages. -/
theorem rep_stages6 (hp : Rep 128 0 p v) : Rep 128 0 (stages6 p) (st v 6) := by
  refine rep_halves _ ?_ ?_
  · refine rep_tail32 rfl (by omega) (rep_flip (by omega) (fun r c => ?_) (rep_stages5 rfl (by omega) (rep_cut hp _)))
    refine (dir_rows64 (k := 5) (o := 0) (by omega) rfl r c).trans (congrArg mask ?_)
    rw [show bit 6 (0 + r.val + 128 * c.val) = false by unfold bit; rw [decide_eq_false (by omega)], Bool.xor_false]
  · refine rep_tail32 rfl (by omega) (rep_flip (by omega) (fun r c => ?_) (rep_stages5 rfl (by omega) (rep_cut hp _)))
    show dir rows64 32#32 (ix2 r c) ^^^ (0#32 - 1#32) = _
    rw [show bit 6 (64 + r.val + 128 * c.val) = true by unfold bit; rw [decide_eq_true (by omega)], ← mask_xor]
    exact congrArg (· ^^^ 4294967295#32) (dir_rows64 (k := 5) (o := 64) (by omega) rfl r c)

theorem rep_tail64 (hp : Rep 128 0 p v) : Rep 128 0 (tail64 p) (mrg 7 v) :=
  rep_halves _ (rep_tail32 rfl (by omega) (rep_cut (rep_blk64 hp) _)) (rep_tail32 rfl (by omega) (rep_cut (rep_blk64 hp) _))

theorem rep_lanes1 (hp : Rep 128 0 p v) : Rep 128 0 (lanes1 p) (mrg 8 v) := rep_tail64 (rep_rollLanes (s := 0) (by omega) hp)
theorem rep_lanes2 (hp : Rep 128 0 p v) : Rep 128 0 (lanes2 p) (mrg 9 v) := rep_lanes1 (rep_rollLanes (s := 1) (by omega) hp)
theorem rep_lanes4 (hp : Rep 128 0 p v) : Rep 128 0 (lanes4 p) (mrg 10 v) := rep_lanes2 (rep_rollLanes (s := 2) (by omega) hp)
theorem rep_lanes8 (hp : Rep 128 0 p v) : Rep 128 0 (lanes8 p) (mrg 11 v) := rep_lanes4 (rep_rollLanes (s := 3) (by omega) hp)
theorem rep_lanes16 (hp : Rep 128 0 p v) : Rep 128 0 (lanes16 p) (mrg 12 v) :=
  rep_lanes8 (rep_rollLanes (s := 4) (by omega) hp)
theorem rep_lanes32 (hp : Rep 128 0 p v) : Rep 128 0 (lanes32 p) (mrg 13 v) :=
  rep_lanes16 (rep_rollLanes (s := 5) (by omega) hp)
theorem rep_lanes64 (hp : Rep 128 0 p v) : Rep 128 0 (lanes64 p) (mrg 14 v) :=
  rep_lanes32 (rep_rollLanes (s := 6) (by omega) hp)

theorem rep_stages9 {u : Row} (hp : Rep 128 0 p (st u 6)) : Rep 128 0 (stages9 p) (st u 9) :=
  rep_lanes2 (rep_flip (by omega) (mask_pair (dir_cols (k := 1) (by omega)) (dir_cols (k := 2) (by omega)))
    (rep_lanes1 (rep_flip (by omega) (mask_pair (dir_cols (k := 0) (by omega)) (dir_cols (k := 1) (by omega)))
      (rep_tail64 (rep_flip (by omega) (mask_pair dir_rows (dir_cols (k := 0) (by omega))) hp)))))

theorem rep_stages14 {u : Row} (hp : Rep 128 0 p (st u 9)) : Rep 128 0 (stages14 p) (st u 14) := by
  have h13 : ∀ r c : Fin 128, dir cols 64#32 (ix2 r c)
      = mask ((fun n => bit 13 n ^^ bit 14 n) (0 + r.val + 128 * c.val)) := fun r c =>
    (dir_cols (k := 6) (by omega) r c).trans (congrArg mask (by
      show bit 13 _ = (bit 13 _ ^^ bit 14 _)
      rw [bit_top (by omega), Bool.xor_false]))
  exact rep_lanes64 (rep_flip (by omega) h13
    (rep_lanes32 (rep_flip (by omega) (mask_pair (dir_cols (k := 5) (by omega)) (dir_cols (k := 6) (by omega)))
      (rep_lanes16 (rep_flip (by omega) (mask_pair (dir_cols (k := 4) (by omega)) (dir_cols (k := 5) (by omega)))
        (rep_lanes8 (rep_flip (by omega) (mask_pair (dir_cols (k := 3) (by omega)) (dir_cols (k := 4) (by omega)))
          (rep_lanes4 (rep_flip (by omega) (mask_pair (dir_cols (k := 2) (by omega)) (dir_cols (k := 3) (by omega))) hp)))))))))

/-- The kernel's network takes the pairs of a tile through the sorting network. -/
theorem rep_net (hp : Rep 128 0 p v) : Rep 128 0 (net p) (st v 14) := rep_stages14 (rep_stages9 (rep_stages6 hp))

end tiles

end Cert.KernelIdeal.Net
-- ==== Proof.Argsort.lean ====
/- The stable order of the keys, and that the network of the kernel finds it. -/
module

public import proofs.«01_k».proof.Proof.Pass
public import Idealize.ShloMosaic.Lib.SortFacts
public import Idealize.ShloMosaic.Lib.SortNet.HostSort

@[expose] public section

noncomputable section

namespace Cert.KernelIdeal.Net

open Idealize.ShloMosaic Idealize.ShloMosaic.SortNet

variable (key : Fin (2 ^ 14) → EReal)

/-- A key beside its position. -/
def tagged (i : Fin (2 ^ 14)) : Ent := toLex (key i, (i.val : ℤ))

theorem tagged_lt {a b : Fin (2 ^ 14)} : tagged key a < tagged key b ↔ key a < key b ∨ key a = key b ∧ a < b := by
  refine Prod.Lex.lt_iff.trans ?_
  show key a < key b ∨ key a = key b ∧ (a.val : ℤ) < (b.val : ℤ) ↔ _
  rw [Int.ofNat_lt, Fin.lt_def]

/-- A key strictly before another. -/
def before (a b : Fin (2 ^ 14)) : Bool := decide (key a < key b)

/-- A position put into a list of later ones, in front of the keys that are not smaller, leaves ties in their order. -/
theorem insert_ascends (a : Fin (2 ^ 14)) (l : List (Fin (2 ^ 14))) (ha : ∀ b ∈ l, a < b)
    (hl : l.Pairwise fun b c => tagged key b < tagged key c) :
    (insertBefore (before key) a l).Pairwise fun b c => tagged key b < tagged key c := by
  induction l with
  | nil => exact List.pairwise_singleton _ _
  | cons b l ih =>
    obtain ⟨hb, hl'⟩ := List.pairwise_cons.mp hl
    unfold insertBefore
    split
    · next h =>
      have hba : tagged key b < tagged key a := (tagged_lt key).mpr (Or.inl (of_decide_eq_true h))
      refine List.pairwise_cons.mpr ⟨fun c hc => ?_, ih (fun c hc => ha c (List.mem_cons_of_mem _ hc)) hl'⟩
      rcases List.mem_cons.mp ((perm_insertBefore _ a l).mem_iff.mp hc) with rfl | hc'
      · exact hba
      · exact hb c hc'
    · next h =>
      have hab : tagged key a < tagged key b := by
        have hle : key a ≤ key b := not_lt.mp fun hlt => h (decide_eq_true hlt)
        rcases hle.lt_or_eq with h1 | h1
        · exact (tagged_lt key).mpr (Or.inl h1)
        · exact (tagged_lt key).mpr (Or.inr ⟨h1, ha b List.mem_cons_self⟩)
      refine List.pairwise_cons.mpr ⟨fun c hc => ?_, hl⟩
      rcases List.mem_cons.mp hc with rfl | hc'
      · exact hab
      · exact hab.trans (hb c hc')

theorem sort_ascends (l : List (Fin (2 ^ 14))) (hl : l.Pairwise (· < ·)) :
    (stableSort (before key) l).Pairwise fun b c => tagged key b < tagged key c := by
  induction l with
  | nil => exact List.Pairwise.nil
  | cons a l ih =>
    obtain ⟨ha, hl'⟩ := List.pairwise_cons.mp hl
    exact insert_ascends key a _ (fun b hb => ha b ((perm_stableSort _ l).mem_iff.mp hb)) (ih hl')

/-- The position of the key that a stable ascending sort puts at place `r`. -/
def order (r : Fin (2 ^ 14)) : Fin (2 ^ 14) := sortedFrom (before key) r

/-- The tagged keys in ascending order are those of the stable order. -/
theorem eq_order (σ : Equiv.Perm (Fin (2 ^ 14))) (hσ : Monotone (tagged key ∘ σ)) (r : Fin (2 ^ 14)) :
    tagged key (σ r) = tagged key (order key r) :=
  comp_perm_eq_getElem_of_sorted id (tagged key) σ hσ (sortPositions (2 ^ 14) (before key)) (perm_sortPositions _ _)
    (sort_ascends key _ (List.pairwise_lt_finRange _)) r (by rw [length_sortPositions]; exact r.isLt)

/-- The place of row `i % 128` and lane `i / 128` in the order of rows. -/
def across : Equiv.Perm (Fin (2 ^ 14)) :=
  Function.Involutive.toPerm (fun i => ⟨128 * (i.val % 128) + i.val / 128, by have := i.isLt; omega⟩)
    fun i => Fin.ext (by
      show 128 * ((128 * (i.val % 128) + i.val / 128) % 128) + (128 * (i.val % 128) + i.val / 128) / 128 = i.val
      have := i.isLt
      omega)

theorem place_lt (r c : Fin 128) : 128 * r.val + c.val < 2 ^ 14 := by omega

/-- The tile that the network starts from. -/
theorem rep_start (y : FVec Ideal S128x128 .f32) (hy : ∀ r c : Fin 128, y (ix2 r c) = key ⟨128 * r.val + c.val, place_lt r c⟩) :
    Rep 128 0 (start y) (tagged key ∘ across) := by
  intro r c
  have hn : 0 + r.val + 128 * c.val < 2 ^ 14 := by omega
  have he : across ⟨0 + r.val + 128 * c.val, hn⟩ = ⟨128 * r.val + c.val, place_lt r c⟩ := Fin.ext (by
    show 128 * ((0 + r.val + 128 * c.val) % 128) + (0 + r.val + 128 * c.val) / 128 = 128 * r.val + c.val
    omega)
  rw [at'_of_lt _ hn]
  show toLex (y (ix2 r c), (rows (ix2 r c) * 128#32 + cols (ix2 r c)).toInt) = tagged key (across ⟨0 + r.val + 128 * c.val, hn⟩)
  rw [he, hy, rows_apply, cols_apply]
  refine congrArg toLex (Prod.ext rfl ?_)
  rw [← BitVec.ofNat_mul, ← BitVec.ofNat_add, BitVec.toInt_eq_toNat_cond, BitVec.toNat_ofNat]
  have := place_lt r c
  rw [Nat.mod_eq_of_lt (by omega), if_pos (by omega)]
  show ((r.val * 128 + c.val : ℕ) : ℤ) = ((128 * r.val + c.val : ℕ) : ℤ)
  rw [Nat.mul_comm]

/-- The network's values are the stable order, rank by rank down the columns. -/
theorem net_value (y : FVec Ideal S128x128 .f32) (hy : ∀ r c : Fin 128, y (ix2 r c) = key ⟨128 * r.val + c.val, place_lt r c⟩)
    (r c : Fin 128) (hn : r.val + 128 * c.val < 2 ^ 14) :
    ((net (start y)).2 (ix2 r c)).toInt = ((order key ⟨r.val + 128 * c.val, hn⟩).val : ℤ) := by
  have h := rep_net (rep_start key y hy) r c
  obtain ⟨σ, hσ⟩ := exists_perm_st (tagged key ∘ across)
  have hm := monotone_st (tagged key ∘ across)
  rw [hσ] at h hm
  rw [Nat.zero_add, at'_of_lt _ hn] at h
  exact congrArg (fun e : Ent => (ofLex e).2) (h.trans (eq_order key (σ.trans across) hm _))

end Cert.KernelIdeal.Net
-- ==== Proof.Mean.lean ====
/- The kernel's stored number is the mean distance between the keys and the multiples of the step at their stable order. -/
module

public import proofs.«01_k».proof.Proof.Argsort
public import Idealize.ShloMosaic.PureOps.Ideal.Laws

@[expose] public section

noncomputable section

namespace Cert.KernelIdeal.Net

open Idealize.ShloMosaic Idealize.ShloMosaic.SortNet Cert.KernelIdeal.Gen

variable (key : Fin (2 ^ 14) → EReal)

/-- How far the key at place `i` is from the grid point of the rank that stands at `i` in the stable order. -/
def gap (i : Fin (2 ^ 14)) : EReal :=
  max (key i - (((order key i).val : ℝ) : EReal) * ((16383⁻¹ : ℝ) : EReal))
    (-(key i - (((order key i).val : ℝ) : EReal) * ((16383⁻¹ : ℝ) : EReal)))

/-- The mean of these distances. -/
def meanGap : EReal := Ideal.div (∑ i, gap key i) (Ideal.ofBits .f32 0x46800000#32)

/-- The constant of the certificate's table. -/
theorem step_eq : Named.named (F := Ideal) κ "step" (φ := .f32) 0x38800200#32 = ((16383⁻¹ : ℝ) : EReal) :=
  IdealRules.named_const.ideal_named_scalar _ _ _ _ rfl

/-- Positions by lane and row. -/
def byLane : Fin 128 × Fin 128 ≃ Fin (2 ^ 14) := finProdFinEquiv.trans (finCongr (by norm_num))

theorem byLane_val (c r : Fin 128) : (byLane (c, r)).val = r.val + 128 * c.val := rfl

/-- A sum over a tile, position by position down the columns. -/
theorem sum_tile (f : Fin (2 ^ 14) → EReal) : ∑ r : Fin 128, ∑ c : Fin 128, f (byLane (c, r)) = ∑ i, f i := by
  rw [Finset.sum_comm, ← Fintype.sum_prod_type' fun (c r : Fin 128) => f (byLane (c, r))]
  exact Fintype.sum_equiv byLane _ _ fun _ => rfl

theorem loss_eq (y : FVec Ideal S128x128 .f32) (hy : ∀ r c : Fin 128, y (ix2 r c) = key ⟨128 * r.val + c.val, place_lt r c⟩)
    (i : S1x1.Idx) : loss y (net (start y)).2 i = meanGap key := by
  have hterm : ∀ r c : Fin 128, absf (subf (transpose S128x128 [1, 0] y transposes_S128x128_p1_0_S128x128)
      (mulf (sitofp .f32 (net (start y)).2) (broadcast S128x128 (Named.named (F := Ideal) κ "step" 0x38800200#32)))) (ix2 r c)
        = gap key (byLane (c, r)) := by
    intro r c
    have ht : transpose S128x128 [1, 0] y transposes_S128x128_p1_0_S128x128 (ix2 r c) = key (byLane (c, r)) := by
      rw [transpose_apply [1, 0] y _ (ix2 r c) (ix2 c r) (Fin.forall_fin_two.mpr ⟨rfl, rfl⟩), hy]
      refine congrArg key (Fin.ext ?_)
      rw [byLane_val]
      show 128 * c.val + r.val = _
      omega
    have hv : sitofp (F := Ideal) .f32 (net (start y)).2 (ix2 r c) = (((order key (byLane (c, r))).val : ℝ) : EReal) := by
      show (((((net (start y)).2 (ix2 r c)).toInt : ℤ) : ℝ) : EReal) = _
      rw [net_value key y hy r c (by omega)]
      rfl
    have hd : subf (transpose S128x128 [1, 0] y transposes_S128x128_p1_0_S128x128)
        (mulf (sitofp .f32 (net (start y)).2) (broadcast S128x128 (Named.named (F := Ideal) κ "step" 0x38800200#32))) (ix2 r c)
          = key (byLane (c, r)) - (((order key (byLane (c, r))).val : ℝ) : EReal) * ((16383⁻¹ : ℝ) : EReal) := by
      rw [← ht, ← hv, ← step_eq]
      rfl
    unfold gap
    rw [← hd]
    rfl
  unfold loss meanGap
  refine congrArg (Ideal.div · (Ideal.ofBits .f32 0x46800000#32)) ?_
  refine (Ideal.multiReduction_add_total (φ := .f32) _ 0x00000000#32 reduces_S1x128x128_S1 (by decide) (.inl rfl) rfl _).trans ?_
  rw [← sum_tile]
  refine Eq.trans ?_ (Eq.trans (sum_idx2 _) (Finset.sum_congr rfl fun r _ => Finset.sum_congr rfl fun c _ => hterm r c))
  exact Equiv.sum_comp (Shape.reshapeEquiv shapeCasts_S128x128_S1x128x128) _

end Cert.KernelIdeal.Net
-- ==== Proof.RefMean.lean ====
/- The reference's result is the same mean. -/
module

public import proofs.«01_k».proof.Proof.Mean
public import proofs.«01_k».proof.Proof.Gen.ReferenceIdeal.Run
public import Idealize.ShloMosaic.Lib.IdealHost

@[expose] public section

noncomputable section

namespace Cert.ReferenceIdeal.Mean

open Idealize.ShloMosaic Cert.ReferenceIdeal Cert.ReferenceIdeal.Gen Cert.KernelIdeal.Net

/-- The magnitudes of a vector. -/
def mags (x : FVec Ideal S16384 .f32) (i : Fin (2 ^ 14)) : EReal := max (x (ix1 (n0 := 16384) i)) (-x (ix1 (n0 := 16384) i))

theorem zero_pat : Ideal.ofBits .f32 0x00000000#32 = 0 := by simp [Ideal.ofBits, Ideal.ieee]
theorem one_pat : Ideal.ofBits .f32 0x3F800000#32 = 1 := by simp [Ideal.ofBits, Ideal.ieee, -EReal.coe_mul]; norm_num
theorem last_pat : Ideal.ofBits .f32 0x467FFC00#32 = ((16383 : ℝ) : EReal) := by
  simp [Ideal.ofBits, Ideal.ieee, -EReal.coe_mul]; norm_num

/-- The reference compares the keys alone. -/
theorem comparator_eq (l r : Ideal .f32 × BitVec 32) :
    comparator_f32_i32_d0 (F := Ideal) l r = BitVec.ofBool (decide ((l.1 : EReal) < r.1)) := by
  have h : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    rw [show Ideal.cmp .une x x = 0#1 by simp [Ideal.cmp], select_zero, zero_pat]
    by_cases hx : x = 0
    · subst hx
      rw [show Ideal.cmp .oeq (0 : EReal) 0 = 1#1 by simp [Ideal.cmp], select_one]
    · rw [show Ideal.cmp .oeq x 0 = 0#1 by simp [Ideal.cmp, hx], select_zero]
  exact congrArg₂ (Ideal.cmp .olt) (h l.1) (h r.1)

/-- The positions in sorted order. -/
abbrev ord (x : FVec Ideal S16384 .f32) : IVec S16384 32 :=
  (Host.sort2 S16384 0 comparator_f32_i32_d0 (Host.absf x) (iotaInDim S16384 32 0)).2

/-- Sorting a pair of vectors by a comparator moves the second one by the sorted positions. -/
theorem sort2_snd {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j = y (Shape.Idx.ofFin (sortedFrom (fun k k' =>
      cmp (x (Shape.Idx.ofFin k), y (Shape.Idx.ofFin k)) (x (Shape.Idx.ofFin k'), y (Shape.Idx.ofFin k')) == 1#1) (j 0))) := by
  unfold Host.sort2
  simp

/-- The sorted positions are the order of the magnitudes. -/
theorem ord_apply (x : FVec Ideal S16384 .f32) (i : Fin 16384) : ord x (ix1 i) = BitVec.ofNat 32 (order (mags x) i).val := by
  refine (sort2_snd comparator_f32_i32_d0 (Host.absf x) (iotaInDim S16384 32 0) (ix1 i)).trans ?_
  have e : (fun k k' : Fin 16384 => comparator_f32_i32_d0 (F := Ideal)
      (Host.absf x (Shape.Idx.ofFin k), iotaInDim S16384 32 0 (Shape.Idx.ofFin k))
      (Host.absf x (Shape.Idx.ofFin k'), iotaInDim S16384 32 0 (Shape.Idx.ofFin k')) == 1#1) = before (mags x) := by
    funext k k'
    rw [comparator_eq]
    have hb : ∀ b : Bool, (BitVec.ofBool b == 1#1) = b := by decide
    rw [hb]
    have hk : ∀ q : Fin 16384, (Shape.Idx.ofFin q : S16384.Idx) = ix1 q := fun q => funext fun u => by
      obtain rfl : u = 0 := Subsingleton.elim _ _
      rfl
    rw [hk, hk]
    rfl
  rw [e]
  have g : ∀ s : Fin 16384 → Fin 16384,
      iotaInDim S16384 32 0 (Shape.Idx.ofFin (s ((ix1 i : S16384.Idx) 0))) = BitVec.ofNat 32 (s i).val := fun s => rfl
  unfold order
  exact g (sortedFrom (before (mags x)))

/-- The grid from zero to one. -/
abbrev grid : FVec Ideal S16384 .f32 :=
  concatenate S16384 0 [⟨S16383, (addf (mulf (broadcastInDim S16383 ![0] bcast_S1_S16383_0 (shapeCast _ (id (constant S_ .f32 0x00000000#32)) shapeCasts_S_S1)) (subf (broadcastInDim S16383 ![] bcast_S_S16383 (constant S_ .f32 0x3F800000#32)) (Host.divf (sitofp .f32 (iotaInDim S16383 32 0)) (broadcastInDim S16383 ![] bcast_S_S16383 (constant S_ .f32 0x467FFC00#32))))) (mulf (broadcastInDim S16383 ![0] bcast_S1_S16383_0 (shapeCast _ (id (constant S_ .f32 0x3F800000#32)) shapeCasts_S_S1)) (Host.divf (sitofp .f32 (iotaInDim S16383 32 0)) (broadcastInDim S16383 ![] bcast_S_S16383 (constant S_ .f32 0x467FFC00#32)))))⟩, ⟨S1, (broadcastInDim S1 ![] bcast_S_S1 (id (constant S_ .f32 0x3F800000#32)))⟩] concatenates_S16383_S1_S16384_d0

theorem toInt_ofNat {n : ℕ} (h : n < 16384) : (BitVec.ofNat 32 n).toInt = (n : ℤ) := by
  rw [BitVec.toInt_eq_toNat_cond, BitVec.toNat_ofNat, Nat.mod_eq_of_lt (by omega), if_pos (by omega)]

/-- The grid point at `j` is `j` steps. -/
theorem grid_apply (j : Fin 16384) : grid (ix1 j) = ((j.val : ℝ) : EReal) * ((16383⁻¹ : ℝ) : EReal) := by
  by_cases h : j.val < 16383
  · unfold grid
    rw [concatenate_pair_apply_left (t := S16384) (s₁ := S16383) (s₂ := S1) 0 _ _ _ (ix1 j) rfl (ix1 ⟨j.val, h⟩)
      (fun b => by obtain rfl : b = 0 := Subsingleton.elim _ _; rfl)]
    show Ideal.ofBits .f32 0x00000000#32 * (Ideal.ofBits .f32 0x3F800000#32
        - Ideal.div ((((BitVec.ofNat 32 j.val).toInt : ℤ) : ℝ) : EReal) (Ideal.ofBits .f32 0x467FFC00#32))
      + Ideal.ofBits .f32 0x3F800000#32
        * Ideal.div ((((BitVec.ofNat 32 j.val).toInt : ℤ) : ℝ) : EReal) (Ideal.ofBits .f32 0x467FFC00#32) = _
    rw [zero_pat, one_pat, last_pat, zero_mul, zero_add, one_mul, toInt_ofNat j.isLt, Ideal.div_coe (by norm_num)]
    simp
  · have hj : j.val = 16383 := by omega
    unfold grid
    rw [concatenate_pair_apply_right (t := S16384) (s₁ := S16383) (s₂ := S1) 0 _ _ _ (ix1 j) rfl rfl (ix1 0)
      (fun b hb => absurd (Subsingleton.elim _ _) hb) (by show 0 + 16383 = j.val; omega)]
    show Ideal.ofBits .f32 0x3F800000#32 = _
    rw [one_pat, hj, ← EReal.coe_mul]
    norm_num

/-- An element looked up at a start index that lies in the vector. -/
theorem gather_apply (g : S16384.Idx → EReal) (idx : IVec S16384x1 32) (i k : Fin 16384)
    (h : idx (ix2 i 0) = BitVec.ofNat 32 k.val) :
    Host.gather gather_S16384_S16384x1_S16384_n_0_n_n_0_1_1 g idx (ix1 i) = g (ix1 k) := by
  unfold Host.gather
  refine congrArg g (funext fun a => ?_)
  obtain rfl : a = 0 := Subsingleton.elim _ _
  refine Fin.ext ?_
  show GatherDims.start _ (ix1 i) idx 0 + GatherDims.batchCoord _ (ix1 i) 0 + GatherDims.offCoord _ (ix1 i) 0 = k.val
  rw [GatherDims.batchCoord_eq_zero _ _ _ List.not_mem_nil,
    GatherDims.offCoord_eq_zero _ _ _ (fun h => ((GatherDims.mem_sKept _ _).mp h).1 (List.mem_singleton.mpr rfl)),
    Nat.add_zero]
  unfold GatherDims.start
  rw [dif_pos (show (0 : Fin 1) ∈ gather_S16384_S16384x1_S16384_n_0_n_n_0_1_1.startIndexMap from List.mem_singleton.mpr rfl)]
  show min (idx _).toInt.toNat 16383 = k.val
  rw [show GatherDims.siIdx gather_S16384_S16384x1_S16384_n_0_n_n_0_1_1 (ix1 i) _ = ix2 i 0 from funext fun b => Fin.ext (by
    match b with
    | ⟨0, _⟩ => rfl
    | ⟨1, _⟩ => rfl), h, toInt_ofNat k.isLt]
  have := k.isLt
  show min k.val 16383 = k.val
  omega

/-- The positions in sorted order as the reference looks them up: none is below zero. -/
theorem start_apply (x : FVec Ideal S16384 .f32) (i : Fin 16384) :
    broadcastInDim S16384x1 ![0] bcast_S16384_S16384x1_0 (select (cmpi .slt (ord x) (broadcastInDim S16384 ![] bcast_S_S16384 (constantI S_ 32 0#32))) (addi (ord x) (broadcastInDim S16384 ![] bcast_S_S16384 (constantI S_ 32 16384#32))) (ord x)) (ix2 i 0)
      = BitVec.ofNat 32 (order (mags x) i).val := by
  rw [broadcastInDim_apply _ _ _ _ (ix1 i) (fun a => by obtain rfl : a = 0 := Subsingleton.elim _ _; rfl)]
  show Scalar.select (BitVec.ofBool ((ord x (ix1 i)).slt 0#32)) _ (ord x (ix1 i)) = _
  rw [ord_apply]
  have : (BitVec.ofNat 32 (order (mags x) i).val).slt 0#32 = false := by
    unfold BitVec.slt
    rw [toInt_ofNat (order (mags x) i).isLt]
    exact decide_eq_false (not_lt.mpr (Int.natCast_nonneg _))
  rw [this]
  rfl

/-- The reference's result. -/
theorem result_eq (x : FVec Ideal S16384 .f32) (q : S_.Idx) :
    Host.divf (Host.reduceAdd (Host.absf (subf (Host.absf x) (Host.gather gather_S16384_S16384x1_S16384_n_0_n_n_0_1_1 grid
      (broadcastInDim S16384x1 ![0] bcast_S16384_S16384x1_0 (select (cmpi .slt (ord x) (broadcastInDim S16384 ![] bcast_S_S16384 (constantI S_ 32 0#32))) (addi (ord x) (broadcastInDim S16384 ![] bcast_S_S16384 (constantI S_ 32 16384#32))) (ord x))))))
      (constant S_ .f32 0x00000000#32) reducesTo_S16384_S_d0 h_S_) (constant S_ .f32 0x46800000#32) q = meanGap (mags x) := by
  unfold meanGap
  refine congrArg (Ideal.div · (Ideal.ofBits .f32 0x46800000#32)) ?_
  refine (Ideal.hostReduceAdd_total reducesTo_S16384_S_d0 (fun b => b.elim0) _ _ q).trans ?_
  refine (congrArg (· + _) zero_pat).trans ((zero_add _).trans ?_)
  rw [sum_idx1]
  refine Finset.sum_congr rfl fun i _ => ?_
  have hg := (gather_apply grid _ i (order (mags x) i) (start_apply x i)).trans (grid_apply _)
  unfold gap
  rw [← hg]
  rfl

end Cert.ReferenceIdeal.Mean
-- ==== Proof.Run.lean ====
/- The run of the kernel body, read as the network. -/
module
public import proofs.«01_k».proof.Proof.Net
@[expose] public section
set_option maxRecDepth 16384
noncomputable section
namespace Cert.KernelIdeal.Net
open Idealize.ShloMosaic Idealize.ShloMosaic.TcCoe Idealize.ShloMosaic.Tactic
open Idealize.SL Idealize.SL.Sem Cert.KernelIdeal.Gen
variable {F : FTy → Type} [FloatOps F] [Named F]

/-- The body stores once, over its whole result block: the loss of its keys and of the sorted positions. -/
theorem run_val (c : Dev nD) (arg0 harg0 arg1 harg1 arg2 harg2) (x0 : Vec F S128x128 .f32) : (kernelRun0_A c arg0 harg0 arg1 harg1 arg2 harg2 x0).1 =
     [⟨Rect.unit (s := S1x1) ![0, 0] S1x1.size inb_S1x1_S1x1_0_0, loss (kernelRun0_A.sl.v2 c arg0 harg0 x0) (net (start (kernelRun0_A.sl.v2 c arg0 harg0 x0))).2⟩] := by
  unfold kernelRun0_A
  dsimp only
  sl_kernel_rfl
end Cert.KernelIdeal.Net
-- ==== Proof.Value.lean ====
/- What the idealized kernel leaves in its result: the mean gap of the magnitudes of its argument. -/
module

public import proofs.«01_k».proof.Proof.Run
public import proofs.«01_k».proof.Proof.RefMean
public import proofs.«01_k».proof.Proof.Gen.KernelIdeal.Frame
public import Idealize.ShloMosaic.Lib.Pipeline.Value
public import Idealize.ShloMosaic.Lib.VecWindow

@[expose] public section

set_option maxRecDepth 16384

noncomputable section

namespace Cert.KernelIdeal.Net

open Idealize.ShloMosaic Idealize.ShloMosaic.TcCoe Idealize.SL.Sem Cert.KernelIdeal Cert.KernelIdeal.Gen
open Idealize.ShloMosaic.Pipeline (Dat Cfg Window)

section Any

variable {F : FTy → Type} [FloatOps F] [Named F]
variable (m : (ℓ : Loc nD τ sig) → Buf (Elt F) ℓ) (ρ : Dev nD → PrngReg)

/-- The keys the body starts from are the magnitudes of its block. -/
theorem keys_eq (c : Dev nD) (arg0 : Memref sig .tc .vmem S128x128 .f32) (harg0 : arg0.IsWhole) (x : Vec F S128x128 .f32) :
    kernelRun0_A.sl.v2 c arg0 harg0 x = absf x := by
  unfold kernelRun0_A.sl.v2 kernelRun0_A.sl.v1
  refine congrArg absf ?_
  refine (shapeCast_self _ _).trans ?_
  exact (View.readAt_full _ _ _).trans (harg0.read_unread x)

/-- The body leaves the loss of the sorted network in its result block. -/
theorem block_eq (c : Dev nD) (arg0 harg0 arg1 harg1 arg2 harg2) (x : Vec F S128x128 .f32) :
    out0_A_1 c arg0 harg0 arg1 harg1 arg2 harg2 x = loss (absf x) (net (start (absf x))).2 := by
  unfold out0_A_1
  rw [run_val, keys_eq]
  funext y
  exact View.read_writes_cons_unit_of_mem _ _ _ _ _ y y rfl fun a => by fin_cases a <;> simp

/-- The one point of the grid. -/
def only : Fin cfg0.N := ⟨0, by decide⟩

/-- The argument laid out as a tile. -/
def tile (c : Dev nD) : Vec F S128x128 .f32 :=
  shapeCast S128x128 (m ((c : Thread nD τ).loc main_arg0)) shapeCasts_S16384_S128x128

/-- The region finds the argument's tile in the array its input window reads. -/
theorem found (c : Dev nD) : V m c main_call0_v0 = tile m c := by
  unfold tile
  simp only [V, V0, hostOps0, List.flatten_cons, List.flatten_nil, List.append_nil, StableHlo.TRef.reshape]
  after_results_simp <;> rfl

/-- The input block is that tile. -/
theorem input_eq (c : Dev nD) : iblk m c 0 only = tile m c := by
  have hz : (fun a => (win0_0.index only) a * main_call0_v0.ty.shape.size a) = fun _ => 0 :=
    funext fun a => by fin_cases a <;> decide
  unfold iblk
  exact (Memref.read_access_unit_zero (Elt F) main_call0_v0 hz (fun a => by fin_cases a <;> decide) _).trans (found m c)

/-- The result array ends at the loss of the tile's network. -/
theorem array_eq (c : Dev nD) : (dats (F := F) m 0 c).arrAt 1 cfg0.N = loss (absf (tile m c)) (net (start (absf (tile m c)))).2 := by
  have hz : (fun a => (win0_1.index only) a * main_call0_v1.ty.shape.size a) = fun _ => 0 :=
    funext fun a => by fin_cases a <;> decide
  refine (Memref.read_access_unit_zero (Elt F) main_call0_v1 hz (fun a => by fin_cases a <;> decide) _).symm.trans ?_
  have hw : ((cfg0.win (1 : Fin 2)).blk only).view.read (Elt F) ((dats (F := F) m 0 c).arrAt 1 cfg0.N)
      = (dats (F := F) m 0 c).flushed 1 only := by
    rw [show cfg0.N = only.val + 1 from rfl, (dats (F := F) m 0 c).arrAt_succ 1 only,
      show (cfg0.win (1 : Fin 2)).flush only = true from by decide, if_pos rfl]
    exact View.read_write_univ _ _
  refine hw.trans ?_
  show (cfg0.win (1 : Fin 2)).cut _ ((dats (F := F) m 0 c).after 1 only) = _
  rw [after0_1]
  unfold outsAt0
  rw [input_eq, block_eq]
  rfl

/-- The lines after the region copy the result array into the scalar result. -/
theorem scalar_eq (c : Dev nD) : Pipeline.afterTail₀ cfgs (dats m) 0 (V0 m) [hostOps1] c main_v0
    = shapeCast S_ (loss (absf (tile m c)) (net (start (absf (tile m c)))).2) shapeCasts_S1x1_S_ := by
  rw [← array_eq m c]
  unfold Pipeline.afterTail₀
  simp only [hostOps1, List.flatten_cons, List.flatten_nil, List.append_nil, StableHlo.TRef.reshape]
  after_results_simp
  refine congrArg (fun x => shapeCast S_ x shapeCasts_S1x1_S_) ?_
  exact Pipeline.withArrays_arr (cfgs 0).spec launch0.win.arr_inj c (V0 m c) _ 1

end Any

variable (m : (ℓ : Loc nD τ sig) → Buf (Elt Ideal) ℓ) (ρ : Dev nD → PrngReg)

/-- The tile's magnitudes lie row after row. -/
theorem tile_apply (c : Dev nD) (r k : Fin 128) : absf (tile m c) (ix2 r k)
    = Cert.ReferenceIdeal.Mean.mags (m ((c : Thread nD τ).loc main_arg0)) ⟨128 * r.val + k.val, place_lt r k⟩ := by
  have h : tile m c (ix2 r k) = m ((c : Thread nD τ).loc main_arg0) (ix1 (n0 := 16384) ⟨128 * r.val + k.val, place_lt r k⟩) := by
    unfold tile
    refine shapeCast_apply _ _ _ _ ?_
    refine (Shape.rowMajor_val_one _).trans (Eq.trans ?_ (Shape.rowMajor_val_two _).symm)
    show 128 * r.val + k.val = r.val * 128 + k.val
    omega
  exact congrArg (fun v : EReal => max v (-v)) h

/-- The idealized kernel ends with the mean gap in its result and its argument unchanged. -/
theorem run_mean : θ_run defs (onTc (τ := τ) (main (F := Ideal))) ⟨m, fun _ => 0, ρ⟩ (fun r => ∀ c : Dev nD,
      r.2.mem ((c.tc : Thread nD τ).loc main_v0) = (fun _ => meanGap (Cert.ReferenceIdeal.Mean.mags (m ((c : Thread nD τ).loc main_arg0))))
      ∧ r.2.mem ((c.tc : Thread nD τ).loc main_arg0) = m ((c.tc : Thread nD τ).loc main_arg0)) := by
  refine (θ_run defs _ _).mono (fun r h c => ⟨?_, ?_⟩) (run_main m ρ)
  · refine ((h c).2 main_v0 (Pipeline.mem_restRefs_of main_v0 (by decide) (by decide))).trans ((scalar_eq m c).trans ?_)
    funext i
    exact loss_eq _ _ (tile_apply m c) _
  · exact ((h c).2 main_arg0 (Pipeline.mem_restRefs_of main_arg0 (by decide) (by decide))).trans (W_main_arg0 m (dats m) c)

end Cert.KernelIdeal.Net
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefMean
public import proofs.«01_k».proof.Proof.Value
public import Idealize.ShloMosaic.Adequacy
public import Idealize.ShloMosaic.Init

@[expose] public section

noncomputable section

namespace Cert.Proof

open Idealize.ShloMosaic Idealize.SL.Sem Cert.Kernel

/-- The printed kernel runs, its argument ends unchanged and the counters end at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference, which declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one rewritten constant is the table's value of its name. -/
theorem preserves : Cert.preserves_Kernel_KernelIdeal :=
  IdealRules.named_const.statement _ _ _ _ _ rfl

/-- From memories that agree on the argument, the idealized kernel and the reference both end with the mean gap between the
    magnitudes of the argument and the grid points their stable sort pairs them with. -/
theorem algebraic : Cert.algebraic_KernelIdeal_ReferenceIdeal := by
  intro m ρ m' ρ' _ hagree
  refine ⟨_, Cert.KernelIdeal.Net.run_mean m ρ, ?_⟩
  refine (θ_run Cert.ReferenceIdeal.defs _ _).mono (fun _ h c => ⟨(h c).1.trans ?_, (h c).2⟩)
    (Cert.ReferenceIdeal.Value.run (F := Ideal) m' ρ')
  rw [hagree c]
  funext q
  exact Cert.ReferenceIdeal.Mean.result_eq _ q

/-- All five claims. -/
theorem claim : Cert.Claim := ⟨Cert.Kernel.Gen.facts, Cert.KernelIdeal.Gen.facts, Cert.ReferenceIdeal.Gen.facts,
  frame_p, frame_pi, frame_ri, preserves, algebraic⟩

end Cert.Proof

end
